-- ==== Defs.lean ====
def Pre_Kernel [hPre_swapping_Kernel : Cert.Pre_swapping_Kernel.Facts] (m : (ℓ : Loc Cert.Kernel.nD Cert.Kernel.τ Cert.Kernel.sig) → Buf (Elt Bits) ℓ) : Prop :=
  ∀ c : Dev Cert.Kernel.nD,
    (Cert.Pre_swapping_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_staying_Kernel [hPre_staying_Kernel : Cert.Pre_staying_Kernel.Facts] (m : (ℓ : Loc Cert.Kernel.nD Cert.Kernel.τ Cert.Kernel.sig) → Buf (Elt Bits) ℓ) : Prop :=
  ∀ c : Dev Cert.Kernel.nD,
    (Cert.Pre_staying_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_swapping_Kernel : Cert.Pre_swapping_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_swapping_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_staying_Kernel [hPre_staying_Kernel : Cert.Pre_staying_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_staying_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swapping_ReferenceIdeal [hPre_swapping_ReferenceIdeal : Cert.Pre_swapping_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swapping_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_staying_ReferenceIdeal [hPre_staying_ReferenceIdeal : Cert.Pre_staying_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_staying_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_swapping_Kernel : Cert.Pre_swapping_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_staying_Kernel [hKernel : Cert.Kernel.Facts] [hPre_staying_Kernel : Cert.Pre_staying_Kernel.Facts] : Prop :=
  ∀ (m : (ℓ : Loc Cert.Kernel.nD Cert.Kernel.τ Cert.Kernel.sig) → Buf (Elt Bits) ℓ) (g : Dev Cert.Kernel.nD → PrngReg), Pre_Kernel_staying_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_swapping_Kernel : Cert.Pre_swapping_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_staying_Kernel [hKernelIdeal : Cert.KernelIdeal.Facts] [hPre_staying_Kernel : Cert.Pre_staying_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_staying_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swapping_ReferenceIdeal [hReferenceIdeal : Cert.ReferenceIdeal.Facts] [hPre_swapping_ReferenceIdeal : Cert.Pre_swapping_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swapping_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_staying_ReferenceIdeal [hReferenceIdeal : Cert.ReferenceIdeal.Facts] [hPre_staying_ReferenceIdeal : Cert.Pre_staying_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_staying_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_swapping_Kernel : Cert.Pre_swapping_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2, 2] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![2, 4096, 2048]⟩ (Layout.meshBlock [2, 2, 2] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_staying_Kernel [hKernelIdeal : Cert.KernelIdeal.Facts] [hReferenceIdeal : Cert.ReferenceIdeal.Facts] [hPre_staying_Kernel : Cert.Pre_staying_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_staying_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2, 2] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![2, 4096, 2048]⟩ (Layout.meshBlock [2, 2, 2] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_swapping_Kernel : Cert.Pre_swapping_Kernel.Facts) (hPre_staying_Kernel : Cert.Pre_staying_Kernel.Facts) (hPre_swapping_ReferenceIdeal : Cert.Pre_swapping_ReferenceIdeal.Facts) (hPre_staying_ReferenceIdeal : Cert.Pre_staying_ReferenceIdeal.Facts),
    quiescent_Kernel (hKernel := hKernel) (hPre_swapping_Kernel := hPre_swapping_Kernel)
    ∧ quiescent_Kernel_pre_staying_Kernel (hKernel := hKernel) (hPre_staying_Kernel := hPre_staying_Kernel)
    ∧ quiescent_KernelIdeal (hKernelIdeal := hKernelIdeal) (hPre_swapping_Kernel := hPre_swapping_Kernel)
    ∧ quiescent_KernelIdeal_pre_staying_Kernel (hKernelIdeal := hKernelIdeal) (hPre_staying_Kernel := hPre_staying_Kernel)
    ∧ quiescent_ReferenceIdeal (hReferenceIdeal := hReferenceIdeal)
    ∧ quiescent_ReferenceIdeal_pre_swapping_ReferenceIdeal (hReferenceIdeal := hReferenceIdeal) (hPre_swapping_ReferenceIdeal := hPre_swapping_ReferenceIdeal)
    ∧ quiescent_ReferenceIdeal_pre_staying_ReferenceIdeal (hReferenceIdeal := hReferenceIdeal) (hPre_staying_ReferenceIdeal := hPre_staying_ReferenceIdeal)
    ∧ preserves_Kernel_KernelIdeal
    ∧ algebraic_KernelIdeal_ReferenceIdeal (hKernelIdeal := hKernelIdeal) (hReferenceIdeal := hReferenceIdeal) (hPre_swapping_Kernel := hPre_swapping_Kernel)
    ∧ algebraic_KernelIdeal_ReferenceIdeal_pre_staying_Kernel (hKernelIdeal := hKernelIdeal) (hReferenceIdeal := hReferenceIdeal) (hPre_staying_Kernel := hPre_staying_Kernel)
-- ==== Pre_staying_Kernel.lean ====
abbrev S1x4096x2048 : Shape := ⟨3, ![1, 4096, 2048]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x4096x2048 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_staying_ReferenceIdeal.lean ====
abbrev S2x4096x2048 : Shape := ⟨3, ![2, 4096, 2048]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x4096x2048 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_swapping_Kernel.lean ====
abbrev S1x4096x2048 : Shape := ⟨3, ![1, 4096, 2048]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x4096x2048 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Pre_swapping_ReferenceIdeal.lean ====
abbrev S2x4096x2048 : Shape := ⟨3, ![2, 4096, 2048]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x4096x2048 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Kernel.lean ====
abbrev S1x4096x2048 : Shape := ⟨3, ![1, 4096, 2048]⟩
abbrev S2 : Shape := ⟨1, ![2]⟩
abbrev S_ : Shape := ⟨0, ![]⟩
abbrev S1 : Shape := ⟨1, ![1]⟩

abbrev nBuf : Space → Nat
  | .hbm => 3
  | .vmem => 0
  | .smem => 1
  | _ => 0

abbrev bufTy : (tb : Table) → Fin (tcTables nBuf tb) → BufTy
  | .hbm, ⟨0, _⟩ => ⟨S1x4096x2048, .f32⟩
  | .hbm, ⟨1, _⟩ => ⟨S2, .i32⟩
  | .hbm, ⟨2, _⟩ => ⟨S1x4096x2048, .f32⟩
  | .local _ .smem, ⟨0, _⟩ => ⟨S2, .i32⟩
  | _, _ => ⟨S1x4096x2048, .f32⟩

abbrev bufScoped : (cs : CoreSpace) → Fin (nBuf (.core cs)) → Bool
  | .smem, ⟨0, _⟩ => true
  | _, _ => false

abbrev semScoped : Fin 2 → Bool
  | ⟨0, _⟩ => false
  | ⟨1, _⟩ => true
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 2 4 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.smem, 0, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_off1 (d0 : Dev nD) : Fin 1 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : Index := Scalar.indexCast v8
  ![v10.toNat]
def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v13 : BitVec 32 := Scalar.muli v2 c4_i32_5
  let v14 : BitVec 32 := Scalar.addi c0_i32 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v15 : BitVec 32 := Scalar.muli v5 c2_i32_6
  let v16 : BitVec 32 := Scalar.addi v14 v15
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v17 : BitVec 32 := Scalar.muli v9 c1_i32_7
  let v18 : BitVec 32 := Scalar.addi v16 v17
  v18.toNat
def k0_dev2 (d0 : Dev nD) (v11 : BitVec 32) : Nat :=
  let c0_i32_12 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v25 : BitVec 32 := Scalar.muli v2 c4_i32_11
  let v26 : BitVec 32 := Scalar.addi c0_i32_12 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v27 : BitVec 32 := Scalar.muli v5 c2_i32_13
  let v28 : BitVec 32 := Scalar.addi v26 v27
  let c1_i32_14 : BitVec 32 := 1#32
  let v29 : BitVec 32 := Scalar.muli v11 c1_i32_14
  let v30 : BitVec 32 := Scalar.addi v28 v29
  v30.toNat
def k0_cond1 (d0 : Dev nD) (v11 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 1 := Scalar.cmpi .ne v11 v8
  let v20 : BitVec 32 := Scalar.extui v19
  let c0_i32_9 : BitVec 32 := 0#32
  let v21 : BitVec 1 := Scalar.cmpi .ne v20 c0_i32_9
  v21

def k0_chk1 (d0 : Dev nD) (v11 : BitVec 32) : Prop :=
  (∀ (k0_h1 : k0_cond1 d0 v11 = 1#1), (k0_dev2 d0 v11) < nD)
theorem k0_dev2_lt : ∀ (d0 : Dev nD) (v11 : BitVec 32) (k0_hw1 : k0_chk1 d0 v11), ∀ (k0_h1 : k0_cond1 d0 v11 = 1#1), (k0_dev2 d0 v11) < nD := fun d0 v11 k0_hw1 k0_h1 => k0_hw1 k0_h1

def k0_dev3 (d0 : Dev nD) : Nat :=
  let c0_i32_13_r0 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_12_r0 : BitVec 32 := 4#32
  let v26_r0 : BitVec 32 := Scalar.muli v2 c4_i32_12_r0
  let v27_r0 : BitVec 32 := Scalar.addi c0_i32_13_r0 v26_r0
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14_r0 : BitVec 32 := 2#32
  let v28_r0 : BitVec 32 := Scalar.muli v5 c2_i32_14_r0
  let v29_r0 : BitVec 32 := Scalar.addi v27_r0 v28_r0
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_15_r0 : BitVec 32 := 1#32
  let v30_r0 : BitVec 32 := Scalar.muli v9 c1_i32_15_r0
  let v31_r0 : BitVec 32 := Scalar.addi v29_r0 v30_r0
  v31_r0.toNat
abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x4096x2048 : Shape := ⟨3, ![2, 4096, 2048]⟩
abbrev S2 : Shape := ⟨1, ![2]⟩
abbrev S_ : Shape := ⟨0, ![]⟩
abbrev S2x1 : Shape := ⟨2, ![2, 1]⟩

abbrev nBuf : Space → Nat
  | .hbm => 14
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Protocol.lean ====
/-
# The exchange's protocol

Every device talks to one other only, its `peer`: the device with the same first two mesh coordinates and the third
one flipped. A device has five semaphore cells the kernel itself uses, numbered here

  0  the door     (the runtime's barrier semaphore: the peer is inside the kernel),
  1  the dispatch (the source side of the copy to the peer is done),
  2  the arrival  (the peer's copy has landed here),
  3  the keeping  (the copy from the input to the output of the same device is done),
  4  the leave    (the peer is done).

The launch runs in one of two modes, told apart by a flag `sw`: at `sw = true` every device's index array is `[1, 0]`
and each device ships its block to its peer (cells 0, 1, 2, 4 are used); at `sw = false` it is `[0, 1]` and each
device copies its block to its own output (cells 0, 3, 4 are used). In either mode a used cell sees one round of one
payment. The modes share the whole text below: what differs is which cells are live and what the door hands over.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the staging pipeline's rounds and the exchange's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-! ## Peers -/

set_option backward.proofsInPublic true in
/-- The device with the third mesh coordinate flipped. -/
def peer (c : Dev nD) : Dev nD := ⟨2 * (c.val / 2) + (1 - c.val % 2), by have : c.val < 8 := c.isLt; show _ < 8; omega⟩

theorem peer_peer (c : Dev nD) : peer (peer c) = c := by revert c; decide

/-- The two signals address the peer. -/
theorem dev1_peer (c : Dev nD) : (⟨k0_dev1 c, k0_dev1_lt c⟩ : Dev nD) = peer c :=
  Fin.ext ((k0_dev1_eq c).trans (by revert c; decide))
theorem dev3_peer (c : Dev nD) : (⟨k0_dev3 c, k0_dev3_lt c⟩ : Dev nD) = peer c :=
  Fin.ext ((k0_dev3_eq c).trans (by revert c; decide))

/-! ## Cells -/

/-- A device's block of the input, and its output block. -/
abbrev xM : Memref sig .tc .hbm S1x4096x2048 .f32 := Memref.whole main_arg0
abbrev oM : Memref sig .tc .hbm S1x4096x2048 .f32 := Memref.whole main_v1

abbrev doorS : Sem sig := (SemArray.scalar (sig.barrier 0 rfl) : Sems sig S_).sem
abbrev leaveS : Sem sig := cc0_scoped0.sem

/-- The five semaphores by number. -/
abbrev csem : Fin 5 → SemLoc sig
  | 0 => .reg doorS
  | 1 => .dma cc0_scratch0.sem
  | 2 => .dma cc0_scratch1.sem
  | 3 => .dma cc0_scratch2.sem
  | 4 => .reg leaveS
/-- Those the kernel's own launch allocates: all but the door. -/
abbrev osem : Fin 4 → SemLoc sig := fun k => csem k.succ

abbrev cell (ck : Dev nD × Fin 5) : GSem nD τ sig := ((ck.1 : Thread nD τ), csem ck.2)

/-- The number of a semaphore, if it is one of the five. -/
def slot (sm : SemLoc sig) : Option (Fin 5) :=
  if sm = csem 0 then some 0 else if sm = csem 1 then some 1 else if sm = csem 2 then some 2
  else if sm = csem 3 then some 3 else if sm = csem 4 then some 4 else none

theorem slot_csem (k : Fin 5) : slot (csem k) = some k := by revert k; decide
theorem csem_inj : Function.Injective csem := fun a b h => Option.some.inj (by rw [← slot_csem a, ← slot_csem b, h])

theorem cell_inj : Function.Injective (cell : Dev nD × Fin 5 → GSem nD τ sig) := by
  rintro ⟨c, k⟩ ⟨d, l⟩ h
  exact Prod.ext (congrArg (fun g : GSem nD τ sig => g.1.1) h) (csem_inj (congrArg Prod.snd h))

/-- What a whole block credits a copy's semaphore with. -/
abbrev load : ℕ := (oM : Memref sig .tc .hbm S1x4096x2048 .f32).view.dmaCredit
theorem load_pos : 0 < load := View.dmaCredit_pos _ (by decide)

/-- Whether a cell is used, and the amount of its one payment. -/
def live (sw : Bool) : Fin 5 → Bool := ![true, sw, sw, !sw, true]
def price : Fin 5 → ℕ := ![1, load, load, load, 1]
theorem price_pos (k : Fin 5) : 0 < price k := by
  fin_cases k
  · exact Nat.one_pos
  · exact load_pos
  · exact load_pos
  · exact load_pos
  · exact Nat.one_pos

/-! ## What the payments hand over -/

variable (sw : Bool) (m : (ℓ : Loc nD τ sig) → Buf (Elt F) ℓ)

/-- Device `c`'s input block as the launch found it. -/
abbrev inp (c : Dev nD) : main_arg0.ty.Contents (Elt F) := m ((c : Thread nD τ).loc main_arg0)

/-- What device `c`'s output block ends as. -/
def res (c : Dev nD) : main_v1.ty.Contents (Elt F) := if sw then inp m (peer c) else inp m c

/-- Device `c`'s input block, held whole at its contents; its output block, held whole at contents `f`. -/
def goods (c : Dev nD) : sProp 𝕄 :=
  (xM : Memref sig .tc .hbm S1x4096x2048 .f32).view.loc (c : Thread nD τ)
    ↦[(xM : Memref sig .tc .hbm S1x4096x2048 .f32).view.set]{fullShare} inp m c
def room (c : Dev nD) (f : main_v1.ty.Contents (Elt F)) : sProp 𝕄 :=
  (oM : Memref sig .tc .hbm S1x4096x2048 .f32).view.loc (c : Thread nD τ)
    ↦[(oM : Memref sig .tc .hbm S1x4096x2048 .f32).view.set]{fullShare} f

omit [FloatOps F] in
theorem goods_eq (c : Dev nD) : goods m c = (((c : Thread nD τ).loc main_arg0) ↦{fullShare} inp m c : sProp 𝕄) := by
  unfold goods; rw [View.set_whole]
omit [FloatOps F] in
theorem room_eq (c : Dev nD) (f : main_v1.ty.Contents (Elt F)) :
    room c f = (((c : Thread nD τ).loc main_v1) ↦{fullShare} f : sProp 𝕄) := by
  unfold room; rw [View.set_whole]

omit [FloatOps F] in
instance goods_storable (c : Dev nD) : BI.Storable (upEmb : UEmb _ 𝕄) (goods (F := F) m c) := by unfold goods; infer_instance
omit [FloatOps F] in
instance room_storable (c : Dev nD) (f) : BI.Storable (upEmb : UEmb _ 𝕄) (room (F := F) c f) := by unfold room; infer_instance

omit [FloatOps F] in
/-- A copy of a whole block leaves the destination at the source's contents. -/
theorem copied (f : main_v1.ty.Contents (Elt F)) (x : main_arg0.ty.Contents (Elt F)) :
    (oM : Memref sig .tc .hbm S1x4096x2048 .f32).view.write (Elt F) f
      ((xM : Memref sig .tc .hbm S1x4096x2048 .f32).view.read (Elt F) x) Finset.univ = x :=
  (View.write_whole_univ main_v1 (Val := Elt F) f _).trans (View.read_whole _ _)

/-- What whoever pays cell `k` of device `c` hands to `c`. -/
def gift (k : Fin 5) (c : Dev nD) : sProp 𝕄 :=
  match k with
  | 0 => if sw then iprop(∃ f, room (peer c) f) else iprop(emp)
  | 1 => goods m c
  | 2 => room c (inp m (peer c))
  | 3 => iprop(room c (inp m c) ∗ goods m c)
  | 4 => iprop(emp)

omit [FloatOps F] in
instance gift_storable (k : Fin 5) (c : Dev nD) : BI.Storable (upEmb : UEmb _ 𝕄) (gift (F := F) sw m k c) := by
  fin_cases k <;> simp only [gift] <;> (try split) <;> infer_instance

/-- The schedule: round 0 of a live cell has the one payment, every other round none. -/
def plan : Rounds.Schedule (GSem nD τ sig) Unit 𝕄 where
  duties g r := if r = 0 ∧ g.1.2 = .tc ∧ (slot g.2).any (live sw) = true then {()} else ∅
  unitless _ := False
  amount g _ _ := match slot g.2 with | some k => price k | none => 1
  payload g _ _ := match slot g.2 with | some k => gift sw m k g.1.1 | none => iprop(emp)
  amount_pos g _ _ _ := by
    cases slot g.2 with
    | none => exact Nat.one_pos
    | some k => exact price_pos k

omit [FloatOps F] in
instance plan_storable (g : GSem nD τ sig) (r : ℕ) (d : Unit) :
    BI.Storable (upEmb : UEmb _ 𝕄) ((plan (F := F) sw m).payload g r d) := by
  show BI.Storable upEmb (match slot g.2 with | some k => gift sw m k g.1.1 | none => iprop(emp))
  split <;> infer_instance

section Plan
variable (c : Dev nD) (k : Fin 5)

omit [FloatOps F] in
theorem duties_live (h : live sw k = true) : (plan (F := F) sw m).duties (cell (c, k)) 0 = {()} :=
  if_pos ⟨rfl, rfl, by rw [slot_csem]; exact h⟩
omit [FloatOps F] in
theorem duties_idle (h : live sw k = false) (r : ℕ) : (plan (F := F) sw m).duties (cell (c, k)) r = ∅ :=
  if_neg fun e => by
    have := e.2.2; rw [slot_csem] at this
    exact Bool.false_ne_true (h.symm.trans this)
omit [FloatOps F] in
theorem duties_over (g : GSem nD τ sig) : ∀ r, 1 ≤ r → (plan (F := F) sw m).duties g r = ∅ :=
  fun r hr => if_neg fun e => by omega
omit [FloatOps F] in
theorem amount_cell : (plan (F := F) sw m).amount (cell (c, k)) 0 () = price k := by
  dsimp only [plan]; rw [slot_csem]
omit [FloatOps F] in
theorem payload_cell : (plan (F := F) sw m).payload (cell (c, k)) 0 () = gift sw m k c := by
  dsimp only [plan]; rw [slot_csem]
omit [FloatOps F] in
theorem expect_live (h : live sw k = true) : (plan (F := F) sw m).expect (cell (c, k)) 0 = price k := by
  unfold Schedule.expect Schedule.amountOf
  rw [duties_live sw m c k h, Finset.sum_singleton, amount_cell]
omit [FloatOps F] in
theorem rest_live (h : live sw k = true) :
    bigSep ((plan (F := F) sw m).duties (cell (c, k)) 0 \ ∅) (fun d => (plan (F := F) sw m).payload (cell (c, k)) 0 d) = gift sw m k c := by
  rw [Finset.sdiff_empty, duties_live sw m c k h, bigSep_singleton, payload_cell]
end Plan

/-! ## Debts and levels -/

/-- What a device owes its peer's arrival cell. -/
def cargo : ℕ := if sw then load else 0

/-- What device `c` owes at launch: a unit to the peer's leave cell, the block to the peer's arrival cell, a unit to
    the peer's door. It pays them from the last summand to the first. -/
def debt₁ (c : Dev nD) : CellTallies nD τ sig Unit := tallyAt (cell (peer c, 4)) () 1
def debt₂ (c : Dev nD) : CellTallies nD τ sig Unit := debt₁ c + tallyAt (cell (peer c, 2)) () (cargo sw)
def debt₃ (c : Dev nD) : CellTallies nD τ sig Unit := debt₂ sw c + tallyAt (cell (peer c, 0)) () 1

/-- The same, as one amount per cell number. -/
def due : Fin 5 → ℕ := ![1, 0, cargo sw, 0, 1]

theorem debt_at (d c : Dev nD) (k : Fin 5) : debt₃ sw d (cell (c, k)) () = if d = peer c then due sw k else 0 := by
  have hp : (c = peer d) = (d = peer c) :=
    propext ⟨fun h => by rw [h, peer_peer], fun h => by rw [h, peer_peer]⟩
  unfold debt₃ debt₂ debt₁
  simp only [Pi.add_apply, Finsupp.add_apply, tallyAt_apply, cell_inj.eq_iff, Prod.mk.injEq, and_true, hp]
  by_cases h : d = peer c
  · simp only [h, true_and, if_true]; fin_cases k <;> simp [due]
  · simp only [h, false_and, if_false]

theorem debt₁_pos {c : Dev nD} {g : GSem nD τ sig} {u : Unit} (h : 0 < debt₁ c g u) : g = cell (peer c, 4) :=
  (Pipeline.tallyAt_pos h).1
theorem debt₂_pos {c : Dev nD} {g : GSem nD τ sig} {u : Unit} (h : 0 < debt₂ sw c g u) :
    g = cell (peer c, 4) ∨ g = cell (peer c, 2) := by
  unfold debt₂ at h; rw [Pi.add_apply, Finsupp.add_apply] at h
  rcases Nat.add_pos_iff_pos_or_pos.mp h with h | h
  · exact Or.inl (debt₁_pos h)
  · exact Or.inr (Pipeline.tallyAt_pos h).1
theorem debt₃_pos {c : Dev nD} {g : GSem nD τ sig} {u : Unit} (h : 0 < debt₃ sw c g u) :
    g = cell (peer c, 4) ∨ g = cell (peer c, 2) ∨ g = cell (peer c, 0) := by
  unfold debt₃ at h; rw [Pi.add_apply, Finsupp.add_apply] at h
  rcases Nat.add_pos_iff_pos_or_pos.mp h with h | h
  · exact (debt₂_pos sw h).imp_right Or.inl
  · exact Or.inr (Or.inr (Pipeline.tallyAt_pos h).1)

/-- The order of the waits: door, arrival, leave; everything else at the bottom. -/
def rank : Fin 5 → ℕ := ![1, 0, 2, 0, 3]
def L (g : GSem nD τ sig) : Finset Unit := if g.1.2 = .tc then {()} else ∅
def lv (g : GSem nD τ sig) (_ : Unit) : ℕ := (slot g.2).elim 0 rank

theorem L_off (g : GSem nD τ sig) (h : g.1.2 ≠ .tc) : L g = ∅ := if_neg h
theorem L_on (c : Dev nD) (sm : SemLoc sig) : L ((c : Thread nD τ), sm) = {()} := if_pos rfl
theorem lv_cell (c : Dev nD) (k : Fin 5) (u : Unit) : lv (cell (c, k)) u = rank k := by
  unfold lv; rw [slot_csem]; rfl

omit [FloatOps F] in
/-- A device may wait at a semaphore below every cell it still owes to. -/
theorem may_wait (c : Dev nD) (sm : SemLoc sig) (O : CellTallies nD τ sig Unit)
    (h : ∀ (g : GSem nD τ sig) (u : Unit), 0 < O g u → ∃ d k, g = cell (d, k) ∧ (slot sm).elim 0 rank < rank k) :
    (levAts L lv : sProp 𝕄) ⊢ MayWait (c : Thread nD τ) sm () O :=
  MayOwe.of_cut (L := L) (lev := lv) ((slot sm).elim 0 rank)
    (fun p hp => by rw [Finset.mem_singleton.mp hp, L_on]; exact Finset.mem_singleton_self _)
    (fun g u hg => by
      obtain ⟨d, k, rfl, -⟩ := h g u hg
      rw [L_on]; exact Finset.mem_singleton_self _)
    (fun p hp => by rw [Finset.mem_singleton.mp hp]; exact le_refl _)
    (fun g u hg => by
      obtain ⟨d, k, rfl, hk⟩ := h g u hg
      rw [lv_cell]; exact hk)

omit [FloatOps F] in
theorem may_wait_all (c : Dev nD) (sm : SemLoc sig) (h : (slot sm).elim 0 rank = 0) :
    (levAts L lv : sProp 𝕄) ⊢ MayWait (c : Thread nD τ) sm () (debt₃ sw c) :=
  may_wait c sm _ fun g u hg => by
    rw [h]
    rcases debt₃_pos sw hg with rfl | rfl | rfl <;> exact ⟨_, _, rfl, by decide⟩
omit [FloatOps F] in
theorem may_wait_door (c : Dev nD) : (levAts L lv : sProp 𝕄) ⊢ MayWait (c : Thread nD τ) (csem 0) () (debt₂ sw c) :=
  may_wait c _ _ fun g u hg => by
    rcases debt₂_pos sw hg with rfl | rfl <;> exact ⟨_, _, rfl, by decide⟩
omit [FloatOps F] in
theorem may_wait_copy (c : Dev nD) (k : Fin 5) (hk : rank k < 3) :
    (levAts L lv : sProp 𝕄) ⊢ MayWait (c : Thread nD τ) (csem k) () (debt₁ c) :=
  may_wait c _ _ fun g u hg => by
    rw [debt₁_pos hg, slot_csem]; exact ⟨_, _, rfl, hk⟩
omit [FloatOps F] in
theorem may_wait_leave (c : Dev nD) : (levAts L lv : sProp 𝕄) ⊢ MayWait (c : Thread nD τ) (csem 4) () 0 := by
  rw [MayWait_zero]; iintro -; iempintro

end Cert.Swap

end
-- ==== Proof.Steps.lean ====
/-
# One device's kernel, run from its share of the launch

The body is executed symbolically. What both of its handshakes do (a unit to the peer, a wait for the peer's unit) is
one lemma, `handshake`, used at the door and at the leave cell; between the two the program branches on the index
word it has read, and the flag of the launch says which branch it is: the copy to the peer (`ship`) or the copy
within the device (`keep`).
-/
module

public import proofs.«01_k».proof.Proof.Protocol

@[expose] public section

noncomputable section

namespace Cert.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (sw : Bool) (m : (ℓ : Loc nD τ sig) → Buf (Elt F) ℓ)

abbrev 𝒱₀ : Variants := Variants.none

/-! ## The index word -/

/-- Device `c`'s index array, and the position in it the device reads: its third mesh coordinate. -/
abbrev tbl (c : Dev nD) : IVec S2 32 := m ((c : Thread nD τ).loc main_arg1)
def pos (c : Dev nD) : S2.Idx := fun a => ⟨c.val % 2, by fin_cases a; exact Nat.mod_lt _ (by decide)⟩

/-- The word each mode has there: the peer's third coordinate, or the device's own. -/
def want (c : Dev nD) : BitVec 32 := if sw then BitVec.ofNat 32 (1 - c.val % 2) else BitVec.ofNat 32 (c.val % 2)

/-- The launch is in mode `sw`: every device reads the word of that mode. -/
def Mode : Prop := ∀ c : Dev nD, tbl m c (pos c) = want sw c

/-- The index array as staged, and the word the body loads from it. -/
def staged (c : Dev nD) : (cc0_stg0_0 : Ref sig .tc).ty.Contents (Elt F) :=
  (win0_0.blk (0 : Fin 1)).view.read (Elt F) (m ((c : Thread nD τ).loc main_arg1))
abbrev spot (c : Dev nD) : Rect S2 := Rect.unit (s := S2) (k0_off1 c) S1.size (k0_off1_inb c)
abbrev iM : Memref sig .tc .smem S2 .i32 := Memref.whole cc0_stg0_0
abbrev word (c : Dev nD) (ts : (cc0_stg0_0 : Ref sig .tc).ty.Contents (Elt F)) : BitVec 32 :=
  (iM.access (spot c) : View sig .tc _ _ _).read (Elt F) ts (Shape.Idx.first (s := S1) (numel1_S1.symm ▸ Nat.one_pos))

omit [FloatOps F] in
theorem word_staged (c : Dev nD) : word c (staged m c) = tbl m c (pos c) := by
  show m ((c : Thread nD τ).loc main_arg1) _ = _
  refine congrArg _ (funext fun a => Fin.ext ?_)
  fin_cases a; fin_cases c <;> rfl

/-- The word of each mode: it passes the body's check, and it decides both branches and the copy's target. -/
theorem want_chk (c : Dev nD) : k0_chk1 c (want sw c) := by
  revert c; cases sw <;> decide +kernel
theorem want_ship (c : Dev nD) : k0_cond1 c (want true c) = 1#1 := by revert c; decide +kernel
theorem want_noship (c : Dev nD) : ¬ k0_cond1 c (want false c) = 1#1 := by revert c; decide +kernel
theorem want_target (c : Dev nD) : k0_dev2 c (want true c) = (peer c).val := by revert c; decide +kernel
/-- The second branch's condition, as the program computes it. -/
abbrev second (c : Dev nD) (v : BitVec 32) : BitVec 1 :=
  Scalar.cmpi .ne (Scalar.extui (Scalar.cmpi .eq v (Scalar.remsi (Scalar.divsi (Dev.word c) 1#32) 2#32)) : BitVec 32) 0#32
theorem want_nokeep (c : Dev nD) : ¬ second c (want true c) = 1#1 := by revert c; decide +kernel
theorem want_keep (c : Dev nD) : second c (want false c) = 1#1 := by revert c; decide +kernel

/-! ## The records and a device's share -/

/-- The invariants of all cells, and that all have reached round 0. -/
def records (K : Dev nD × Fin 5 → ℕ) : sProp 𝕄 :=
  iprop((bigSep Finset.univ fun ck : Dev nD × Fin 5 => cellInv ER (plan sw m) (K ck) (cell ck))
    ∗ bigSep Finset.univ fun ck : Dev nD × Fin 5 => reached ER (cell ck) 0)

instance records_persistent (K : Dev nD × Fin 5 → ℕ) : BI.Persistent (records sw m K) := by unfold records; infer_instance

omit [FloatOps F] in
theorem record_inv (K : Dev nD × Fin 5 → ℕ) (ck : Dev nD × Fin 5) :
    records sw m K ⊢ cellInv ER (plan sw m) (K ck) (cell ck) := by
  unfold records; exact sep_elim_left.trans (bigSep_elim (Finset.mem_univ ck))
omit [FloatOps F] in
theorem record_reached (K : Dev nD × Fin 5 → ℕ) (ck : Dev nD × Fin 5) :
    records sw m K ⊢ reached ER (cell ck) 0 := by
  unfold records; exact sep_elim_right.trans (bigSep_elim (Finset.mem_univ ck))

/-- The device whose cell `k` device `c` pays: its own for the two the device's copies complete on, else its peer's. -/
def payee (k : Fin 5) (c : Dev nD) : Dev nD := if k = 1 ∨ k = 3 then c else peer c

/-- What device `c` holds of its own cells: its five standings. -/
def standing (c : Dev nD) : sProp 𝕄 := bigSep Finset.univ fun k : Fin 5 => atPos ER (cell (c, k)) 0 ∅ 0
/-- The right to make the payments it makes. -/
def rights (c : Dev nD) : sProp 𝕄 := bigSep Finset.univ fun k : Fin 5 => dutyTok ER (cell (payee k c, k)) 0 ()
/-- What it may count on of others' debts. -/
def claims (c : Dev nD) : sProp 𝕄 := bigSep Finset.univ fun k : Fin 5 => cred (tallyAt (cell (c, k)) () (due sw k))

def ghost (K : Dev nD × Fin 5 → ℕ) (c : Dev nD) : sProp 𝕄 := iprop(records sw m K ∗ standing c ∗ rights c)

/-- Everything device `c`'s kernel starts from; and everything it ends with. -/
def start (c : Dev nD) : sProp 𝕄 :=
  iprop((∃ K, ghost sw m K c) ∗ claims sw c ∗ levAts L lv ∗ goods m c ∗ room c (m ((c : Thread nD τ).loc main_v1)))
def finish (c : Dev nD) : sProp 𝕄 :=
  iprop(goods m c ∗ room c (res sw m c) ∗ bigSep Finset.univ fun k : Fin 5 => semVal (cell (c, k)) 0)

omit [FloatOps F] in
theorem five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-! ## The steps -/

section Steps

variable (K : Dev nD × Fin 5 → ℕ) (c : Dev nD) {α : Type} {Q : α → sProp (MT nD τ sig Unit (Elt F) ℕ UU ℕ)}

/-- A unit to the peer, then a wait for the peer's unit: at a regular semaphore `s`, cell number `k`. What the peer is to
    be given goes in, what the peer gives comes out. -/
theorem handshake (k : Fin 5) (s : Sem sig) (hk : csem k = .reg s) (hl : live sw k = true) (h1 : price k = 1)
    (n : Dev nD) (hn : n = peer c) (O : CellTallies nD τ sig Unit) (W : Waits sig Unit) (p : Prog (TpuEff nD τ sig (Elt F) Λ₀ .tc) α) :
    iprop(records sw m K ∗ owes (c : Thread nD τ) (O + tallyAt (cell (peer c, k)) () 1) W
        ∗ dutyTok ER (cell (peer c, k)) 0 () ∗ gift sw m k (peer c) ∗ cred (tallyAt (cell (c, k)) () 1)
        ∗ MayWait (c : Thread nD τ) (csem k) () O ∗ atPos ER (cell (c, k)) 0 ∅ 0)
      ⊢ iprop(((owes (c : Thread nD τ) O (insert (csem k, ()) W) ∗ atPos ER (cell (c, k)) (0 + 1) ∅ 0 ∗ gift sw m k c) -∗ wp frame (wpE (defs₀ (F := F)) 𝒱₀ (c : Thread nD τ) none) Set.univ p Q)
          -∗ wp frame (wpE (defs₀ (F := F)) 𝒱₀ (c : Thread nD τ) none) Set.univ (.op (.semSignal (n : Thread nD τ) s ((1#32 : BitVec 32).toInt)) fun _ => .op (.semWait s ((1#32 : BitVec 32).toInt)) fun _ => p) Q) := by
  subst hn
  have hc : ∀ d : Dev nD, cell (d, k) = ((d : Thread nD τ), SemLoc.reg s) := fun d => congrArg (Prod.mk _) hk
  have hd := fun d => duties_live sw m d k hl
  have ha := fun d => amount_cell sw m d k
  have hp := fun d => payload_cell sw m d k
  have he := fun d => expect_live sw m d k hl
  have hr := fun d => rest_live sw m d k hl
  have hinv := fun d => record_inv sw m K (d, k)
  have hreach := fun d => record_reached sw m K (d, k)
  simp only [hc, hk] at hd ha hp he hr hinv hreach ⊢
  iintro ⟨#HR, HO, Ht, Hg, Hc, Hw, Hat⟩ Hk
  iapply (Rounds.wp_signal 𝒱₀ ER (plan sw m) (c : Thread nD τ) none (dst := (peer c : Thread nD τ)) (κ := K (peer c, k))
      (d := ()) (by rw [hd]; exact Finset.mem_singleton_self _) ((ha (peer c)).trans (h1.trans (by decide))) () O rfl)
    $$ [HO Ht Hg]
  · isplitr; · iapply (hinv (peer c)); iexact HR
    isplitl [HO]; · iexact HO
    isplitl [Ht]; · iexact Ht
    isplitl [Hg]; · rw [hp]; iexact Hg
    iapply (hreach (peer c)); iexact HR
  iintro HO
  iapply (Rounds.wp_wait_rest_token 𝒱₀ ER (plan sw m) (c : Thread nD τ) none (κ := K (c, k))
      (wpE_semWait_eq 𝒱₀ (c : Thread nD τ) none Set.univ) (Set.mem_univ _) () (O := O) (W := W) (R := 0) (m := 0) (T := ∅)
      (by rw [he, h1]; decide)) $$ [Hc HO Hw Hat]
  · isplitr; · iapply (hinv c); iexact HR
    isplitl [Hc]; · iexact Hc
    isplitl [HO]; · iexact HO
    isplitl [Hw]; · iexact Hw
    iexact Hat
  iintro ⟨HO, Hat, -, Hpay⟩
  ihave Hg := (Entails.of_eq (hr c)) $$ Hpay
  iapply Hk
  isplitl [HO]; · iexact HO
  isplitl [Hat]; · iexact Hat
  iexact Hg

/-- A wait for the whole of a copy's credit, at DMA semaphore `q`, cell number `k`: the copy's gift comes out. -/
theorem await (k : Fin 5) (q : DmaSem sig) (hk : csem k = .dma q) (hl : live sw k = true) (h1 : price k = load)
    {sp sp' : Space} {s s' : Shape} {e e' : EltTy} {src : Memref sig .tc sp' s' e'} {dst : Memref sig .tc sp s e}
    {hsrc : src.view.WordExact} {hdst : dst.view.WordExact} (hcr : dst.view.dmaCredit = load)
    (O : CellTallies nD τ sig Unit) (W : Waits sig Unit) (p : Prog (TpuEff nD τ sig (Elt F) Λ₀ .tc) α) :
    iprop(records sw m K ∗ owes (c : Thread nD τ) O W ∗ cred (tallyAt (cell (c, k)) () load)
        ∗ MayWait (c : Thread nD τ) (csem k) () O ∗ atPos ER (cell (c, k)) 0 ∅ 0)
      ⊢ iprop(((owes (c : Thread nD τ) O (insert (csem k, ()) W) ∗ atPos ER (cell (c, k)) (0 + 1) ∅ 0 ∗ gift sw m k c) -∗ wp frame (wpE (defs₀ (F := F)) 𝒱₀ (c : Thread nD τ) none) Set.univ p Q)
          -∗ wp frame (wpE (defs₀ (F := F)) 𝒱₀ (c : Thread nD τ) none) Set.univ (.op (.waitDma2 q src dst hsrc hdst) fun _ => p) Q) := by
  have hc : ∀ d : Dev nD, cell (d, k) = ((d : Thread nD τ), SemLoc.dma q) := fun d => congrArg (Prod.mk _) hk
  have he := fun d => expect_live sw m d k hl
  have hr := fun d => rest_live sw m d k hl
  have hinv := fun d => record_inv sw m K (d, k)
  simp only [hc, hk] at he hr hinv ⊢
  rw [← hcr]
  iintro ⟨#HR, HO, Hc, Hw, Hat⟩ Hk
  iapply (Rounds.wp_wait_rest_token 𝒱₀ ER (plan sw m) (c : Thread nD τ) none (κ := K (c, k))
      (wpE_waitDma2_eq 𝒱₀ (c : Thread nD τ) none Set.univ) (Set.mem_univ _) () (O := O) (W := W) (R := 0) (m := 0) (T := ∅)
      (by rw [he, h1, hcr, Nat.zero_add])) $$ [Hc HO Hw Hat]
  · isplitr; · iapply (hinv c); iexact HR
    isplitl [Hc]; · iexact Hc
    isplitl [HO]; · iexact HO
    isplitl [Hw]; · iexact Hw
    iexact Hat
  iintro ⟨HO, Hat, -, Hpay⟩
  ihave Hg := (Entails.of_eq (hr c)) $$ Hpay
  iapply Hk
  isplitl [HO]; · iexact HO
  isplitl [Hat]; · iexact Hat
  iexact Hg

/-- The copy to the peer, in the shipping mode. -/
theorem ship (n : Dev nD) (hn : n = peer c) {hsc : (oM : Memref sig (Dev.tc n : Thread nD τ).2.kind .hbm S1x4096x2048 .f32).view.ref.isScScratch = false}
    {hsrc : (xM : Memref sig .tc .hbm S1x4096x2048 .f32).view.WordExact} {hdst : (oM : Memref sig .tc .hbm S1x4096x2048 .f32).view.WordExact}
    {hsem : DmaTarget.Typed .hbm (.dma cc0_scratch1.sem) (.remote (Dev.tc n : Thread nD τ) (oM : Memref sig .tc .hbm S1x4096x2048 .f32) (.dma cc0_scratch0.sem) hsc)}
    (f : main_v1.ty.Contents (Elt F)) (W : Waits sig Unit) (p : Prog (TpuEff nD τ sig (Elt F) Λ₀ .tc) α) :
    iprop(records true m K ∗ goods m c ∗ room (peer c) f ∗ owes (c : Thread nD τ) (debt₂ true c) W
        ∗ dutyTok ER (cell (c, 1)) 0 () ∗ dutyTok ER (cell (peer c, 2)) 0 ())
      ⊢ iprop(((cred (tallyAt (cell (c, 1)) () load) ∗ owes (c : Thread nD τ) (debt₁ c) W) -∗ wp frame (wpE (defs₀ (F := F)) 𝒱₀ (c : Thread nD τ) none) Set.univ p Q)
          -∗ wp frame (wpE (defs₀ (F := F)) 𝒱₀ (c : Thread nD τ) none) Set.univ (.op (.enqueueDma xM (.remote (Dev.tc n : Thread nD τ) oM (.dma cc0_scratch0.sem) hsc) (.dma cc0_scratch1.sem) hsrc hdst hsem) fun _ => p) Q) := by
  subst hn
  iintro ⟨#HR, Hx, Ho, HO, Ht1, Ht2⟩ Hk
  iapply (Rounds.wp_send_pointsTo 𝒱₀ ER (plan true m) (c : Thread nD τ) none (κ₁ := K (c, 1)) (κ₂ := K (peer c, 2))
    (r₁ := 0) (r₂ := 0) (d₁ := ()) (d₂ := ()) (fs := inp m c) (fd := f) (q := fullShare)
    (by rw [duties_live true m c 1 rfl]; exact Finset.mem_singleton_self _)
    (by rw [duties_live true m (peer c) 2 rfl]; exact Finset.mem_singleton_self _)
    () () load rfl (amount_cell true m c 1) (amount_cell true m (peer c) 2) (debt₁ c) rfl (W := W)
    (by rw [payload_cell true m c 1]; exact BI.Entails.refl _)
    (by rw [payload_cell true m (peer c) 2]; dsimp only [gift]; unfold room; rw [copied, peer_peer])) $$ [Hx Ho HO Ht1 Ht2]
  · isplitr; · iapply (record_inv true m K (c, 1)); iexact HR
    isplitr; · iapply (record_inv true m K (peer c, 2)); iexact HR
    isplitl [Hx]; · unfold goods; iexact Hx
    isplitl [Ho]; · unfold room; iexact Ho
    isplitl [HO]; · iexact HO
    isplitl [Ht1]; · iexact Ht1
    isplitr; · iapply (record_reached true m K (c, 1)); iexact HR
    isplitl [Ht2]; · iexact Ht2
    iapply (record_reached true m K (peer c, 2)); iexact HR
  iexact Hk

/-- The copy within the device, in the other mode. -/
theorem keep {hsrc : (xM : Memref sig .tc .hbm S1x4096x2048 .f32).view.WordExact} {hdst : (oM : Memref sig .tc .hbm S1x4096x2048 .f32).view.WordExact}
    {hsem : DmaTarget.Typed (nD := nD) (τ := τ) (p := Proc.tc) .hbm (.dma cc0_scratch2.sem) (.here oM)}
    (f : main_v1.ty.Contents (Elt F)) (p : Prog (TpuEff nD τ sig (Elt F) Λ₀ .tc) α) :
    iprop(records false m K ∗ goods m c ∗ room c f ∗ dutyTok ER (cell (c, 3)) 0 ())
      ⊢ iprop((cred (tallyAt (cell (c, 3)) () load) -∗ wp frame (wpE (defs₀ (F := F)) 𝒱₀ (c : Thread nD τ) none) Set.univ p Q)
          -∗ wp frame (wpE (defs₀ (F := F)) 𝒱₀ (c : Thread nD τ) none) Set.univ (.op (.enqueueDma xM (.here oM) (.dma cc0_scratch2.sem) hsrc hdst hsem) fun _ => p) Q) := by
  iintro ⟨#HR, Hx, Ho, Ht⟩ Hk
  iapply (Rounds.wp_copy_pointsTo 𝒱₀ ER (plan false m) (c : Thread nD τ) none (κ := K (c, 3))
    (r := 0) (d := ()) (fs := inp m c) (fd := f) (q := fullShare)
    (by rw [duties_live false m c 3 rfl]; exact Finset.mem_singleton_self _)
    () load rfl (amount_cell false m c 3)
    (by rw [payload_cell false m c 3]; dsimp only [gift]; unfold room goods; rw [copied])) $$ [Hx Ho Ht]
  · isplitr; · iapply (record_inv false m K (c, 3)); iexact HR
    isplitl [Hx]; · unfold goods; iexact Hx
    isplitl [Ho]; · unfold room; iexact Ho
    isplitl [Ht]; · iexact Ht
    iapply (record_reached false m K (c, 3)); iexact HR
  iexact Hk

/-- A cell whose payments are all received, or that never has one, ends at zero. -/
theorem shut (k : Fin 5) (R : ℕ) (h : 1 ≤ R ∨ live sw k = false) :
    iprop(records sw m K ∗ atPos ER (cell (c, k)) R ∅ 0) ⊢ iprop(|={Set.univ}=> semVal (cell (c, k)) 0) := by
  iintro ⟨#HR, Hat⟩
  iapply (Rounds.cell_close ER (plan sw m) (Set.mem_univ (K (c, k))) (fun h => h) (R := R)
    (fun r hr => h.elim (fun h => duties_over sw m _ r (le_trans h hr)) (fun h => duties_idle sw m c k h r)))
  isplitr; · iapply (record_inv sw m K (c, k)); iexact HR
  iexact Hat

end Steps

end Cert.Swap

end
-- ==== Proof.Body.lean ====
/-
# The body, from one device's share to its result

The pipeline's proof data for the launch (`dats`), the end of the body (`depart`: the leave handshake, then every
cell closes), and the body itself in either mode, which is the region's obligation.
-/
module

public import proofs.«01_k».proof.Proof.Steps

@[expose] public section

noncomputable section

namespace Cert.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (sw : Bool) (m : (ℓ : Loc nD τ sig) → Buf (Elt F) ℓ)

/-! ## The proof data of the pipeline -/

def dats (_ : Fin 1) (c : Dev nD) : Dat τ (Elt F) Unit ℕ UU ℕ cfg0 c where
  A w := m ((cfg0.win w).arr.view.loc (c : Thread nD τ))
  after w _ := match w with
    | ⟨0, _⟩ => staged m c
  Φ t := match t with
    | ⟨0, _⟩ => start sw m c
    | ⟨_ + 1, _⟩ => finish sw m c
  q _ := fullShare
  owed t := match t with
    | ⟨0, _⟩ => debt₃ sw c
    | ⟨_ + 1, _⟩ => 0

theorem fetches (t : Fin cfg0.N) : (cfg0.win (0 : Fin 1)).fetch t = true := by rw [fin_N0 t]; rfl

/-- A whole staging buffer at contents that are `X`. -/
abbrev holds (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
theorem owns_holds (c : Dev nD) (b : Ref sig .tc) (X : b.ty.Contents (Elt F)) :
    (owns (Ix := Unit) (Name := ℕ) (U := UU) (Lvl := ℕ) (c : Thread nD τ) (Memref.whole b) fullShare X : sProp 𝕄) = holds c b X := by
  unfold owns; simp only [Memref.view_whole, View.read_whole, View.set_whole]

section Body

variable (K : Dev nD × Fin 5 → ℕ) (c : Dev nD)

/-- The round a cell of a device is left at. -/
def left (k : Fin 5) : ℕ := (live sw k).toNat

omit [FloatOps F] in
theorem left_over (k : Fin 5) : 1 ≤ left sw k ∨ live sw k = false := by
  unfold left; cases live sw k <;> simp

/-- The leave handshake, and every cell closed. -/
theorem depart {α : Type} {Q : α → sProp (MT nD τ sig Unit (Elt F) ℕ UU ℕ)} (n : Dev nD) (hn : n = peer c) (W : Waits sig Unit)
    (p : Prog (TpuEff nD τ sig (Elt F) Λ₀ .tc) α) :
    iprop(records sw m K ∗ levAts L lv ∗ owes (c : Thread nD τ) (debt₁ c) W ∗ dutyTok ER (cell (peer c, 4)) 0 ()
        ∗ cred (tallyAt (cell (c, 4)) () 1) ∗ atPos ER (cell (c, 4)) 0 ∅ 0
        ∗ atPos ER (cell (c, 0)) (left sw 0) ∅ 0 ∗ atPos ER (cell (c, 1)) (left sw 1) ∅ 0
        ∗ atPos ER (cell (c, 2)) (left sw 2) ∅ 0 ∗ atPos ER (cell (c, 3)) (left sw 3) ∅ 0)
      ⊢ iprop((((∃ W', owes (c : Thread nD τ) 0 W') ∗ bigSep Finset.univ fun k : Fin 5 => semVal (cell (c, k)) 0)
            -∗ wp frame (wpE (defs₀ (F := F)) 𝒱₀ (c : Thread nD τ) none) Set.univ p Q)
          -∗ wp frame (wpE (defs₀ (F := F)) 𝒱₀ (c : Thread nD τ) none) Set.univ
              (.op (.semSignal (n : Thread nD τ) leaveS ((1#32 : BitVec 32).toInt)) fun _ => .op (.semWait leaveS ((1#32 : BitVec 32).toInt)) fun _ => p) Q) := by
  rw [show debt₁ c = 0 + tallyAt (cell (peer c, 4)) () 1 from (zero_add _).symm]
  iintro ⟨#HR, #Hlev, HO, Ht, Hc, Hat4, Hat0, Hat1, Hat2, Hat3⟩ Hk
  iapply (handshake sw m K c 4 leaveS rfl rfl rfl n hn 0 W p) $$ [HO Ht Hc Hat4]
  · isplitr; · iexact HR
    isplitl [HO]; · iexact HO
    isplitl [Ht]; · iexact Ht
    isplitr; · dsimp only [gift]; iempintro
    isplitl [Hc]; · iexact Hc
    isplitr; · iapply (may_wait_leave c); iexact Hlev
    iexact Hat4
  iintro ⟨HO, Hat4, -⟩
  imod (shut sw m K c 0 _ (left_over sw 0)) $$ [Hat0] with Hz0
  · isplitr; · iexact HR
    iexact Hat0
  imod (shut sw m K c 1 _ (left_over sw 1)) $$ [Hat1] with Hz1
  · isplitr; · iexact HR
    iexact Hat1
  imod (shut sw m K c 2 _ (left_over sw 2)) $$ [Hat2] with Hz2
  · isplitr; · iexact HR
    iexact Hat2
  imod (shut sw m K c 3 _ (left_over sw 3)) $$ [Hat3] with Hz3
  · isplitr; · iexact HR
    iexact Hat3
  imod (shut sw m K c 4 (0 + 1) (Or.inl le_rfl)) $$ [Hat4] with Hz4
  · isplitr; · iexact HR
    iexact Hat4
  iapply Hk
  isplitl [HO]; · iexists _; iexact HO
  rw [five]
  isplitl [Hz0]; · iexact Hz0
  isplitl [Hz1]; · iexact Hz1
  isplitl [Hz2]; · iexact Hz2
  isplitl [Hz3]; · iexact Hz3
  iexact Hz4

def before (c : Dev nD) : sProp 𝕄 :=
  iprop(start sw m c ∗ (dats sw m 0 c).owesAt () t0_0.castSucc
    ∗ (∃ d, holds c cc0_stg0_0 ((dats sw m 0 c).before (0 : Fin 1) t0_0 d)))
def after (c : Dev nD) : sProp 𝕄 :=
  iprop(finish sw m c ∗ (dats sw m 0 c).owesAt () t0_0.succ ∗ holds c cc0_stg0_0 (staged m c))

omit [FloatOps F] in
theorem gift_door : gift true m 0 c = (iprop(∃ f, room (peer c) f) : sProp 𝕄) := by dsimp only [gift]; exact if_pos rfl

/-- What the device offers at the door, and what it keeps back. -/
theorem offer : (room c (m ((c : Thread nD τ).loc main_v1)) : sProp 𝕄)
    ⊢ iprop(gift sw m 0 (peer c) ∗ (if sw then BI.emp else room c (m ((c : Thread nD τ).loc main_v1)))) := by
  cases sw
  · iintro H
    isplitr; · dsimp only [gift]; iempintro
    rw [if_neg Bool.false_ne_true]; iexact H
  · iintro H
    isplitl [H]
    · rw [gift_door, peer_peer]; iexists _; iexact H
    · rw [if_pos rfl]; iempintro

omit [FloatOps F] in
theorem debt₂_idle : debt₂ false c = debt₁ c := by
  unfold debt₂ cargo; rw [if_neg Bool.false_ne_true, tallyAt_zero, add_zero]

/-- What the body's end holds, gathered. -/
theorem conclude : iprop(goods m c ∗ room c (res sw m c) ∗ (bigSep Finset.univ fun k : Fin 5 => semVal (cell (c, k)) 0)
      ∗ (∃ W', owes (c : Thread nD τ) 0 W') ∗ (((c : Thread nD τ).loc cc0_stg0_0) ↦{fullShare} staged m c)) ⊢ after sw m c := by
  unfold after finish Dat.owesAt Pipeline.owesWithin
  rw [show (dats sw m 0 c).owed t0_0.succ = 0 from rfl]
  iintro ⟨Hx, Ho, Hz, ⟨%W', HO⟩, Hs⟩
  isplitl [Hx Ho Hz]
  · isplitl [Hx]; · iexact Hx
    isplitl [Ho]; · iexact Ho
    iexact Hz
  isplitl [HO]
  · iexists W'
    isplitr; · ipureintro; exact fun _ _ => Or.inl trivial
    iexact HO
  iexists _; isplitr; · (ipureintro; rfl)
  iexact Hs

set_option maxHeartbeats 4000000 in
/-- The body in either mode. -/
theorem body_runs (hmode : Mode sw m) (Kt : PUnit → sProp 𝕄) :
    iprop(before sw m c ∗ (after sw m c -∗ Kt ⟨⟩))
      ⊢ wp frame (wpE (defs₀ (F := F)) 𝒱₀ c none) Set.univ
          (cc0_body (Memref.whole main_arg0) (Memref.isWhole_whole _) (Memref.whole cc0_stg0_0) (Memref.isWhole_whole _)
            (Memref.whole main_v1) (Memref.isWhole_whole _) cc0_scratch0 cc0_scratch1 cc0_scratch2 cc0_scoped0) Kt := by
  have hword : word c (staged m c) = want sw c := (word_staged m c).trans (hmode c)
  simp only [cc0_body_eq_skeleton]; unfold cc0_body_skel
  simp only [k0_part1_eq_skeleton]; unfold k0_part1_skel
  simp only [semSignalWord, semWaitWord, smemLoad, smemLoadElt, Prog.lift, Prog.bind_op, Prog.bind_ret, Prog.pure_eq_ret, Prog.bind_assoc, wp_deviceId]
  unfold before start ghost standing rights claims
  rw [five, five, five]
  rw [show payee 0 c = peer c from rfl, show payee 1 c = c from rfl, show payee 2 c = peer c from rfl, show payee 3 c = c from rfl,
    show payee 4 c = peer c from rfl]
  iintro ⟨⟨⟨⟨%K, #HR, ⟨Hat0, Hat1, Hat2, Hat3, Hat4⟩, ⟨Ht0, Ht1, Ht2, Ht3, Ht4⟩⟩, ⟨Hc0, -, Hc2, -, Hc4⟩, #Hlev, Hx, Ho⟩, Hd, ⟨%d0, %g0, %hg0, Hs⟩⟩, Hk⟩
  have hg : g0 = staged m c := by rw [hg0]; unfold Dat.before; rw [if_pos (fetches t0_0)]; rfl
  subst hg
  unfold Dat.owesAt Pipeline.owesWithin
  icases Hd with ⟨%W, %hW, HO⟩
  rw [show (dats sw m 0 c).owed t0_0.castSucc = debt₃ sw c from rfl]
  iapply (wp_load_rect 𝒱₀ (c : Thread nD τ) none Set.univ (m := iM) (r := spot c) (Finset.subset_univ _)) $$ Hs; iintro Hs
  -- the word it reads is its mode's
  have hchk : k0_chk1 c (word c (staged m c)) := by rw [hword]; exact want_chk sw c
  simp only [wp_assume_of _ _ _ _ (d := k0_chk1.dec _ _) hchk]
  -- the door: in the shipping mode its result's room goes to the peer, and the peer's comes back
  ihave Ho' := (offer sw m c) $$ Ho
  icases Ho' with ⟨Hgive, Hrest⟩
  iapply (handshake sw m K c 0 doorS rfl rfl rfl _ (dev1_peer c) (debt₂ sw c) W _) $$ [HO Ht0 Hc0 Hat0 Hgive]
  · isplitr; · iexact HR
    isplitl [HO]; · iexact HO
    isplitl [Ht0]; · iexact Ht0
    isplitl [Hgive]; · iexact Hgive
    isplitl [Hc0]; · iexact Hc0
    isplitr; · iapply (may_wait_door sw c); iexact Hlev
    iexact Hat0
  iintro ⟨HO, Hat0, Hg⟩
  cases sw
  · rw [dif_neg (show ¬ k0_cond1 c (word c (staged m c)) = 1#1 by rw [hword]; exact want_noship c)]
    rw [if_pos (show second c (word c (staged m c)) = 1#1 by rw [hword]; exact want_keep c)]
    simp only [Prog.bind_op, Prog.bind_ret]
    rw [debt₂_idle]
    ihave Ho := (Entails.of_eq (if_neg Bool.false_ne_true)) $$ Hrest
    -- the copy within the device, and its credit
    iapply (keep m K c (m ((c : Thread nD τ).loc main_v1)) _) $$ [Hx Ho Ht3]
    · isplitr; · iexact HR
      isplitl [Hx]; · iexact Hx
      isplitl [Ho]; · iexact Ho
      iexact Ht3
    iintro Hc3
    iapply (await false m K c 3 cc0_scratch2.sem rfl rfl rfl (src := xM) (dst := oM) rfl (debt₁ c) _ _) $$ [HO Hc3 Hat3]
    · isplitr; · iexact HR
      isplitl [HO]; · iexact HO
      isplitl [Hc3]; · iexact Hc3
      isplitr; · iapply (may_wait_copy c 3 (by decide)); iexact Hlev
      iexact Hat3
    iintro ⟨HO, Hat3, Hgot⟩
    dsimp only [gift]
    icases Hgot with ⟨Ho, Hx⟩
    iapply (depart false m K c _ (dev3_peer c) _ _) $$ [HO Ht4 Hc4 Hat0 Hat1 Hat2 Hat3 Hat4]
    · isplitr; · iexact HR
      isplitr; · iexact Hlev
      isplitl [HO]; · iexact HO
      isplitl [Ht4]; · iexact Ht4
      isplitl [Hc4]; · iexact Hc4
      isplitl [Hat4]; · iexact Hat4
      isplitl [Hat0]; · iexact Hat0
      isplitl [Hat1]; · iexact Hat1
      isplitl [Hat2]; · iexact Hat2
      iexact Hat3
    iintro ⟨HO, Hz⟩
    rw [wp_ret]; imodintro
    iapply Hk
    iapply (conclude false m c)
    isplitl [Hx]; · iexact Hx
    isplitl [Ho]; · rw [res, if_neg Bool.false_ne_true]; iexact Ho
    isplitl [Hz]; · iexact Hz
    isplitl [HO]; · iexact HO
    iexact Hs
  · rw [dif_pos (show k0_cond1 c (word c (staged m c)) = 1#1 by rw [hword]; exact want_ship c)]
    rw [if_neg (show ¬ second c (word c (staged m c)) = 1#1 by rw [hword]; exact want_nokeep c)]
    simp only [Prog.bind_op, Prog.bind_ret]
    ihave Hg' := (Entails.of_eq (gift_door m c)) $$ Hg
    icases Hg' with ⟨%f, Hroom⟩
    -- the copy to the peer, its departure, and the peer's arrival
    iapply (ship m K c _ (Fin.ext (show k0_dev2 c (word c (staged m c)) = _ by rw [hword]; exact want_target c)) f _ _) $$ [Hx Hroom HO Ht1 Ht2]
    · isplitr; · iexact HR
      isplitl [Hx]; · iexact Hx
      isplitl [Hroom]; · iexact Hroom
      isplitl [HO]; · iexact HO
      isplitl [Ht1]; · iexact Ht1
      iexact Ht2
    iintro ⟨Hc1, HO⟩
    iapply (await true m K c 1 cc0_scratch0.sem rfl rfl rfl (src := oM) (dst := xM) rfl (debt₁ c) _ _) $$ [HO Hc1 Hat1]
    · isplitr; · iexact HR
      isplitl [HO]; · iexact HO
      isplitl [Hc1]; · iexact Hc1
      isplitr; · iapply (may_wait_copy c 1 (by decide)); iexact Hlev
      iexact Hat1
    iintro ⟨HO, Hat1, Hx⟩
    iapply (await true m K c 2 cc0_scratch1.sem rfl rfl rfl (src := xM) (dst := oM) rfl (debt₁ c) _ _) $$ [HO Hc2 Hat2]
    · isplitr; · iexact HR
      isplitl [HO]; · iexact HO
      isplitl [Hc2]; · iexact Hc2
      isplitr; · iapply (may_wait_copy c 2 (by decide)); iexact Hlev
      iexact Hat2
    iintro ⟨HO, Hat2, Ho⟩
    dsimp only [gift]
    iapply (depart true m K c _ (dev3_peer c) _ _) $$ [HO Ht4 Hc4 Hat0 Hat1 Hat2 Hat3 Hat4]
    · isplitr; · iexact HR
      isplitr; · iexact Hlev
      isplitl [HO]; · iexact HO
      isplitl [Ht4]; · iexact Ht4
      isplitl [Hc4]; · iexact Hc4
      isplitl [Hat4]; · iexact Hat4
      isplitl [Hat0]; · iexact Hat0
      isplitl [Hat1]; · iexact Hat1
      isplitl [Hat2]; · iexact Hat2
      iexact Hat3
    iintro ⟨HO, Hz⟩
    rw [wp_ret]; imodintro
    iapply Hk
    iapply (conclude true m c)
    isplitl [Hx]; · iexact Hx
    isplitl [Ho]; · rw [res, if_pos rfl]; iexact Ho
    isplitl [Hz]; · iexact Hz
    isplitl [HO]; · iexact HO
    iexact Hs

/-- The region's obligation. -/
theorem body_obligation (hmode : Mode sw m) : BodyObligation (dats sw m 0 c) (defs₀ (F := F)) 𝒱₀ () Set.univ := fun t => by
  rw [show t = t0_0 from fin_N0 t]
  rw [show (bigSep Finset.univ : (Fin cfg0.W → sProp 𝕄) → sProp 𝕄) = fun Φ => iprop(Φ (0 : Fin 1)) from funext fun Φ => bigSep_W0 Φ]
  simp only [owns_holds]
  show before sw m c ⊢ wp frame (wpE (defs₀ (F := F)) 𝒱₀ c none) Set.univ
    (cc0_body (Memref.whole main_arg0) (Memref.isWhole_whole _) (Memref.whole cc0_stg0_0) (Memref.isWhole_whole _)
      (Memref.whole main_v1) (Memref.isWhole_whole _) cc0_scratch0 cc0_scratch1 cc0_scratch2 cc0_scoped0) (fun _ => after sw m c)
  iintro H
  iapply (body_runs sw m c hmode fun _ => after sw m c)
  isplitl [H]; · iexact H
  iintro H; iexact H

end Body

end Cert.Swap

end
-- ==== Proof.Run.lean ====
/-
# The launch

The launch deals every cell's `seed`, allocates the invariants of all cells at once and hands each device its share;
the payments' rights go to whoever makes them, by one bijection of the cells (`deal`). `run_main` is the run of the
whole program in mode `sw`, over any float values.
-/
module

public import proofs.«01_k».proof.Proof.Body
public import Idealize.ShloMosaic.Lib.Pipeline.CollectiveSegs

@[expose] public section

noncomputable section

namespace Cert.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (sw : Bool) (m : (ℓ : Loc nD τ sig) → Buf (Elt F) ℓ) (ρ : Dev nD → PrngReg)

/-! ## What the launch mints -/

theorem ownSemFacts : Pipeline.OwnSemFacts cfg0.spec osem := by decide

def minted : Finset (GSem nD τ sig) := Finset.univ.map ⟨cell, cell_inj⟩
def mintedRights : Finset (GSem nD τ sig × ℕ × Unit) :=
  Finset.univ.map ⟨fun ck : Dev nD × Fin 5 => (cell ck, 0, ()), fun _ _ h => cell_inj (congrArg Prod.fst h)⟩

def u₀ : UU := (initOf (Pipeline.cells cfgs cellOf_inj) (Pipeline.launchToks cfgs cellOf_inj), initOf minted mintedRights)

/-- What is minted for one cell. -/
def seed (ck : Dev nD × Fin 5) : sProp 𝕄 :=
  iprop(roundState ER (plan sw m) (cell ck) 0 ∗ reached ER (cell ck) 0 ∗ atPos ER (cell ck) 0 ∅ 0 ∗ dutyTok ER (cell ck) 0 ())
/-- The same with the cell's invariant in place of its state. -/
def grown (ck : Dev nD × Fin 5) : sProp 𝕄 :=
  iprop((∃ κ : ℕ, cellInv ER (plan sw m) κ (cell ck)) ∗ reached ER (cell ck) 0 ∗ atPos ER (cell ck) 0 ∅ 0 ∗ dutyTok ER (cell ck) 0 ())

def G (c : Dev nD) : sProp 𝕄 := bigSep Finset.univ fun k : Fin 5 => seed sw m (c, k)
def G' (c : Dev nD) : sProp 𝕄 := iprop(∃ K, ghost sw m K c)

omit [FloatOps F] in
theorem mint : BI.own (ER (initOf minted mintedRights)) ⊢ (|==> bigSep Finset.univ (G sw m) : sProp 𝕄) := by
  have h : (bigSep Finset.univ (G sw m) : sProp 𝕄)
      = iprop(bigSep minted (fun g => roundState ER (plan sw m) g 0) ∗ bigSep minted (fun g => reached ER g 0)
          ∗ bigSep minted (fun g => atPos ER g 0 ∅ 0) ∗ bigSep mintedRights (fun x => dutyTok ER x.1 x.2.1 x.2.2)) := by
    unfold G minted mintedRights
    rw [bigSep_map, bigSep_map, bigSep_map, bigSep_map, ← bigSep_univ_prod (seed sw m)]
    unfold seed
    rw [bigSep_sep', bigSep_sep', bigSep_sep']
    rfl
  rw [h]
  exact Rounds.fund ER (plan sw m) minted mintedRights

/-! ## The global step -/

omit [FloatOps F] in
theorem own_zero (c : Dev nD) : (Pipeline.ownSems0 (Ix := Unit) (Name := ℕ) (U := UU) (Lvl := ℕ) (Val := Elt F) (τ := τ) osem c : sProp 𝕄)
    = iprop(semVal (cell (c, 1)) 0 ∗ semVal (cell (c, 2)) 0 ∗ semVal (cell (c, 3)) 0 ∗ semVal (cell (c, 4)) 0) := by
  rw [Pipeline.ownSems0_eq_of_list c osem [0, 1, 2, 3] (by decide) (by decide)]; rfl
omit [FloatOps F] in
theorem door_zero (c : Dev nD) : (unscopedSems0 c : sProp 𝕄) = semVal (cell (c, 0)) 0 := by
  unfold unscopedSems0; rw [bigSep_eq_bigSepL_of_eq [SemLoc.reg doorS] (by decide) (by decide)]; rfl

omit [FloatOps F] in
/-- One device's counters, at zero, cell by cell. -/
theorem zeros (c : Dev nD) :
    (bigSep Finset.univ fun k : Fin 5 => semVal (cell (c, k)) 0 : sProp 𝕄)
      = iprop(unscopedSems0 c ∗ Pipeline.ownSems0 (Ix := Unit) (Name := ℕ) (U := UU) (Lvl := ℕ) (Val := Elt F) (τ := τ) osem c) := by
  rw [five, own_zero, door_zero]

omit [FloatOps F] in
theorem grow (ck : Dev nD × Fin 5) : iprop(semVal (cell ck) 0 ∗ seed sw m ck) ⊢ |={Set.univ}=> grown sw m ck := by
  unfold seed grown
  iintro ⟨Hv, Hst, Hrest⟩
  imod ((Rounds.body_intro ER (plan sw m) (cell ck)).trans inv_alloc) $$ [Hv Hst] with Hinv
  · isplitl [Hv] <;> iassumption
  imodintro
  isplitl [Hinv]; · iexact Hinv
  iexact Hrest

/-- The cells, each to the one it is paid from: a bijection. -/
def deal : Dev nD × Fin 5 ≃ Dev nD × Fin 5 where
  toFun ck := (payee ck.2 ck.1, ck.2)
  invFun ck := (payee ck.2 ck.1, ck.2)
  left_inv := fun ⟨c, k⟩ => by unfold payee; dsimp only; split <;> rw [Prod.mk.injEq] <;> simp [peer_peer]
  right_inv := fun ⟨c, k⟩ => by unfold payee; dsimp only; split <;> rw [Prod.mk.injEq] <;> simp [peer_peer]

omit [FloatOps F] in
/-- All that is grown, dealt out. -/
theorem hand_out : (bigSep Finset.univ (grown sw m) : sProp 𝕄) ⊢ bigSep Finset.univ (G' sw m) := by
  unfold grown
  rw [bigSep_sep', bigSep_sep', bigSep_sep', bigSep_univ_equiv deal (fun ck => (dutyTok ER (cell ck) 0 () : sProp 𝕄)),
    bigSep_univ_prod (fun ck : Dev nD × Fin 5 => (atPos ER (cell ck) 0 ∅ 0 : sProp 𝕄)),
    bigSep_univ_prod (fun ck : Dev nD × Fin 5 => (dutyTok ER (cell (deal ck)) 0 () : sProp 𝕄))]
  iintro ⟨HI, #HR, Hat, Htok⟩
  ihave HK := (BI.bigSep_exists_pi Finset.univ (fun (ck : Dev nD × Fin 5) (κ : ℕ) => (cellInv ER (plan sw m) κ (cell ck) : sProp 𝕄))) $$ HI
  icases HK with ⟨%K, #HI⟩
  have hrec : iprop(records sw m K ∗ bigSep Finset.univ fun c : Dev nD => iprop(standing (F := F) c ∗ rights c)) ⊢ bigSep Finset.univ (G' sw m) :=
    (sep_mono_left (BI.bigSep_of_persistent Finset.univ (records sw m K))).trans (by
      rw [← bigSep_sep']
      exact bigSep_mono fun c _ => show iprop(records sw m K ∗ standing (F := F) c ∗ rights c) ⊢ iprop(∃ K, ghost sw m K c) by
        unfold ghost
        iintro H
        iexists K
        iexact H)
  iapply hrec
  isplitr
  · unfold records
    isplitl; · iexact HI
    iexact HR
  · rw [bigSep_sep']
    isplitl [Hat]; · iexact Hat
    iexact Htok

omit [FloatOps F] in
theorem glob : (bigSep Finset.univ fun c => iprop(Pipeline.ownSems0 (Ix := Unit) (Name := ℕ) (U := UU) (Lvl := ℕ) (Val := Elt F) (τ := τ) osem c ∗ unscopedSems0 c ∗ G sw m c) : sProp 𝕄)
    ⊢ |={Set.univ}=> bigSep Finset.univ (G' sw m) := by
  refine (bigSep_mono (Ψ := fun c => bigSep Finset.univ fun k : Fin 5 => iprop(semVal (cell (c, k)) 0 ∗ seed sw m (c, k))) fun c _ => ?_).trans ?_
  · show iprop(Pipeline.ownSems0 (Ix := Unit) (Name := ℕ) (U := UU) (Lvl := ℕ) (Val := Elt F) (τ := τ) osem c ∗ unscopedSems0 c ∗ G sw m c) ⊢ _
    rw [bigSep_sep', zeros]; unfold G
    iintro ⟨Ho, Hu, HG⟩
    isplitr [HG]
    · isplitl [Hu] <;> iassumption
    · iexact HG
  · rw [← bigSep_univ_prod (fun ck : Dev nD × Fin 5 => iprop(semVal (cell ck) 0 ∗ seed sw m ck))]
    exact ((bigSep_mono fun ck _ => grow sw m ck).trans (bigSep_fupd _ _)).trans (BI.fupd_mono (hand_out sw m))

/-! ## The launch credit -/

omit [FloatOps F] in
theorem credit (c : Dev nD) (k : Fin 5) :
    tallyOn (cell (c, k)) (launchCredit (Pipeline.owing (debt₃ sw)) 0 (cell (c, k))) = (tallyAt (cell (c, k)) () (due sw k) : CellTallies nD τ sig Unit) := by
  unfold tallyAt
  refine congrArg _ (Finsupp.ext fun u => ?_)
  rw [Pipeline.launchCredit_owing, Finset.sum_congr rfl fun d _ => debt_at sw d c k, Finset.sum_ite_eq' Finset.univ (peer c) fun _ => due sw k,
    if_pos (Finset.mem_univ _), Finsupp.single_eq_same]

omit [FloatOps F] in
theorem claimed (c : Dev nD) : (Pipeline.launchCred (debt₃ sw) c : sProp 𝕄) ⊢ claims sw c := by
  unfold Pipeline.launchCred claims
  refine (bigSep_subset (Finset.subset_univ (Finset.univ.image csem))).trans ?_
  rw [bigSep_image_of_injOn csem_inj.injOn]
  exact bigSep_mono fun k _ => Entails.of_eq (congrArg cred (credit sw c k))

/-! ## The sides of the region -/

theorem begins (c : Dev nD) :
    iprop(Pipeline.unscopedRestP Pipeline.Prefetch.none cfg0.spec c (fun b => m ((c : Thread nD τ).loc b)) ∗ levAts L lv
        ∗ Pipeline.launchCred (debt₃ sw) c ∗ prngReg c (ρ c) ∗ G' sw m c)
      ⊢ |={Set.univ}=> iprop(start sw m c ∗ emp) := by
  rw [Pipeline.unscopedRestP_none, unscopedRest0_eq]
  unfold start G'
  rw [goods_eq, room_eq]
  iintro ⟨⟨Hx, Ho⟩, Hlev, Hcr, -, HG⟩
  ihave Hc := (claimed (F := F) sw c) $$ Hcr
  imodintro
  isplitl
  · isplitl [HG]; · iexact HG
    isplitl [Hc]; · iexact Hc
    isplitl [Hlev]; · iexact Hlev
    isplitl [Hx]; · iexact Hx
    iexact Ho
  · iempintro

theorem enters (c : Dev nD) :
    iprop(start sw m c ∗ Pipeline.prefHeld Pipeline.Prefetch.none c (fun _ => fullShare.right) (fun k => k.elim0) ∗ Pipeline.scopedRest cfg0.spec c)
      ⊢ (dats sw m 0 c).Φ 0 := by
  rw [show (dats sw m 0 c).Φ 0 = start sw m c from rfl]
  iintro ⟨Hs, -⟩
  iexact Hs

/-- What a device comes out with beside its scoped counters. -/
def kept (c : Dev nD) : sProp 𝕄 := iprop(goods m c ∗ room c (res sw m c) ∗ unscopedSems0 c)

theorem exits (c : Dev nD) :
    (dats sw m 0 c).Φ (Fin.last cfg0.N) ⊢ iprop(kept sw m c ∗ Pipeline.ownSems0 osem c ∗ Pipeline.scopedRest cfg0.spec c) := by
  rw [show (dats sw m 0 c).Φ (Fin.last cfg0.N) = finish sw m c from rfl, scopedRest0_eq]
  unfold finish kept
  rw [zeros]
  iintro ⟨Hx, Ho, Hu, Hz⟩
  isplitl [Hx Ho Hu]
  · isplitl [Hx]; · iexact Hx
    isplitl [Ho] <;> iassumption
  isplitl [Hz]; · iexact Hz
  iempintro

theorem waits (c : Dev nD) : (levAts L lv : sProp 𝕄) ⊢ Pipeline.cellsWaits cfgs (dats sw m) () 0 c :=
  Pipeline.cellsWaits_intro cfgs (dats sw m) () 0 c fun w s t => by
    rcases t with ⟨_ | _, ht⟩
    · exact may_wait_all sw c _ (by fin_cases w; fin_cases s; decide)
    · show (levAts L lv : sProp 𝕄) ⊢ MayWait _ _ () 0
      rw [MayWait_zero]; iintro -; iempintro

/-- What the final memory of a device must be. -/
def Right (c : Dev nD) (s : MemSt nD τ sig (Elt F)) : Prop :=
  (s.mem ((c : Thread nD τ).loc main_v1) = res sw m c ∧ s.mem ((c : Thread nD τ).loc main_arg0) = inp m c)
    ∧ ∀ sm : SemLoc sig, sm.isScoped .tc = false → s.sem ((c : Thread nD τ), sm) = 0

theorem reads (c : Dev nD) (s' : Phys nD τ sig (Elt F)) :
    iprop(kept sw m c ∗ emp ∗ SI s') ⊢ |={Set.univ}=> iprop(⌜Right sw m c s'.mem⌝ ∗ SI s') := by
  unfold kept Right
  rw [goods_eq, room_eq]
  iintro ⟨⟨Hx, Ho, Hu⟩, -, HSI⟩
  ihave H := (persistent_entails_right (SI_pointsTo_agree (st := s') (ℓ := (c : Thread nD τ).loc main_arg0) (I := Finset.univ) (q := fullShare) (f := inp m c))) $$ [HSI Hx]
  · isplitl [HSI] <;> iassumption
  icases H with ⟨%hx, HSI, -⟩
  ihave H := (persistent_entails_right (SI_pointsTo_agree (st := s') (ℓ := (c : Thread nD τ).loc main_v1) (I := Finset.univ) (q := fullShare) (f := res sw m c))) $$ [HSI Ho]
  · isplitl [HSI] <;> iassumption
  icases H with ⟨%ho, HSI, -⟩
  imod (Pipeline.unscopedSems0_read (X := unscopedSems0 c) (c := c) fupd_intro s') $$ [Hu HSI] with ⟨%hu, HSI⟩
  · isplitl [Hu] <;> iassumption
  imodintro
  isplitr; · ipureintro; exact ⟨⟨funext fun i => ho i (Finset.mem_univ i), funext fun i => hx i (Finset.mem_univ i)⟩, hu⟩
  iexact HSI

/-! ## The run -/

set_option maxRecDepth 8000 in
/-- In mode `sw`, over any float values and from any memory with zero counters: every weakly fair execution of the eight
    devices ends, with the results `res`, the arguments unchanged and every counter at zero. -/
theorem run_main (hmode : Mode sw m) :
    θ_run defs (onTc (τ := τ) (main (F := F))) ⟨m, fun _ => 0, ρ⟩ (fun r =>
      (∀ c : Dev nD, r.2.mem ((c : Thread nD τ).loc main_v1) = res sw m c
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0) :=
  Pipeline.θ_run_region_owing_glob_pf (fun p => (cfgs p).toPCfg) (fun p => (cfgs p).toPCfg_adm) (dats sw m) () cellOf_inj (0 : Fin 1)
    winFacts0.to₀ ownSemFacts (Pipeline.PreFacts.none _) EP defs₀ 𝒱₀ m ρ main
    (hmain := fun _ => rfl)
    (hbody := fun c => body_obligation sw m c hmode) (hne := fun w => by fin_cases w <;> exact Nat.succ_pos _) (harr := arr_whole0) (hstage := stage_whole0)
    (hshare := fun c w => by unfold Dat.share; split <;> rfl)
    (hdistinct := winFacts0.arr_inj)
    (O₀ := debt₃ sw) (howed₀ := fun _ => rfl) (howedN := fun _ => rfl)
    (L := L) (lv := lv) (hL := L_off) (hwaits := waits sw m)
    (G := G sw m) (G' := G' sw m) (u₀ := u₀)
    (hu₀ := by
      unfold u₀
      iintro Hu
      ihave H := (ownU_pair _ _) $$ Hu
      icases H with ⟨HP, HX⟩
      imod (mint sw m) $$ HX with HG
      imodintro
      isplitl [HP] <;> iassumption)
    (hglob := glob sw m)
    (hA := fun _ _ => rfl) (hpf := fun _ k => k.elim0)
    (X := start sw m) (Y := kept sw m) (Z := fun _ => iprop(emp))
    (hX := begins sw m ρ) (hin := enters sw m) (hout := exits sw m)
    (QY := Right sw m) (hY := reads sw m)
    (hQ := fun _ h hs =>
      ⟨fun c => ⟨(h c).2.2.1.1, (h c).2.2.1.2, ((h c).1 (0 : Fin 1)).trans ((dats sw m 0 c).arrAt_in (0 : Fin 1) rfl _)⟩,
        sem_eq_zero hs fun c => (h c).2.2.2⟩)

end Cert.Swap

end
-- ==== Proof.Table.lean ====
/-
# What the preconditions say of the table

Each predicate compares the two words of a device's copy of the table with two constants. Its truth pins the copy down
entirely (`reads_of_swapping`, `reads_of_staying`), so on every device the word a device finds at its own place is the
one its mode asks for (`mode_of_tables`).
-/
module

public import proofs.«01_k».proof.Proof.Steps
public import proofs.«01_k».proof.Pre_swapping_Kernel
public import proofs.«01_k».proof.Pre_staying_Kernel
public import proofs.«01_k».proof.Pre_swapping_ReferenceIdeal
public import proofs.«01_k».proof.Pre_staying_ReferenceIdeal

@[expose] public section

noncomputable section

namespace Cert.Swap

open Idealize.ShloMosaic Idealize.ShloMosaic.TcCoe

/-! ## The predicates' side conditions -/

instance swappingFacts : Cert.Pre_swapping_Kernel.Facts := ⟨by decide, by decide, by decide⟩
instance stayingFacts : Cert.Pre_staying_Kernel.Facts := ⟨by decide, by decide, by decide⟩
instance swappingRefFacts : Cert.Pre_swapping_ReferenceIdeal.Facts := ⟨by decide, by decide, by decide⟩
instance stayingRefFacts : Cert.Pre_staying_ReferenceIdeal.Facts := ⟨by decide, by decide, by decide⟩

/-! ## The table of each mode -/

/-- The shape of a table of two words. -/
abbrev Pair : Shape := ⟨1, ![2]⟩

/-- Swapping, place `k` names `1 - k`; staying, it names itself. -/
def order (sw : Bool) : IVec Pair 32 := fun i => (if sw then ![1#32, 0#32] else ![0#32, 1#32] : Fin 2 → BitVec 32) (i 0)

/-- A table is determined by its first and its second word. -/
theorem pair_ext {v w : IVec Pair 32} (i j : Pair.Idx) (hi : (i 0).val = 0) (hj : (j 0).val = 1) (h0 : v i = w i)
    (h1 : v j = w j) : v = w := by
  have same : ∀ p q : Pair.Idx, (p 0).val = (q 0).val → p = q := fun p q h =>
    funext fun a => by rw [Subsingleton.elim a 0]; exact Fin.ext h
  funext p
  have hp : (p 0).val < 2 := (p 0).isLt
  by_cases hz : (p 0).val = 0
  · rw [same p i (hz.trans hi.symm)]; exact h0
  · rw [same p j (by omega)]; exact h1

/-- Two comparisons' conjunction is true only of two equalities. -/
theorem equal_of_andi {a b x y : BitVec 32} (h : IntOp.andi (IntOp.cmpi .eq a x) (IntOp.cmpi .eq b y) = 1#1) :
    a = x ∧ b = y := by
  have key : ∀ p q : Bool, BitVec.ofBool p &&& BitVec.ofBool q = 1#1 → p = true ∧ q = true := by decide
  exact ⟨eq_of_beq (key _ _ h).1, eq_of_beq (key _ _ h).2⟩

variable {F : FTy → Type} [FloatOps F]

theorem reads_of_swapping (x : FVec F ⟨3, ![1, 4096, 2048]⟩ .f32) (t : IVec Pair 32)
    (h : Cert.Pre_swapping_Kernel.fn (F := F) x t = fun _ => 1#1) : t = order true := by
  have hh := equal_of_andi (congrFun h fun a => a.elim0)
  exact pair_ext _ _ (by rfl) (by rfl) hh.1 hh.2

theorem reads_of_staying (x : FVec F ⟨3, ![1, 4096, 2048]⟩ .f32) (t : IVec Pair 32)
    (h : Cert.Pre_staying_Kernel.fn (F := F) x t = fun _ => 1#1) : t = order false := by
  have hh := equal_of_andi (congrFun h fun a => a.elim0)
  exact pair_ext _ _ (by rfl) (by rfl) hh.1 hh.2

open Cert.KernelIdeal in
/-- With every copy of the table the mode's, every device finds the word the mode asks for. -/
theorem mode_of_tables (sw : Bool) (m : (ℓ : Loc nD τ sig) → Buf (Elt F) ℓ) (h : ∀ c, tbl m c = order sw) : Mode sw m := by
  have key : ∀ (b : Bool) (c : Dev nD), order b (pos c) = want b c := by decide
  intro c
  rw [h c]; exact key sw c

end Cert.Swap

end
-- ==== Proof.Reference.lean ====
/-
# What the reference computes

The sort of either table carrying the places along gives the table itself back: a transposition and the identity are
their own inverses (`argsort_order`). The gather then reads, for block `k` of the result, the block the table's word `k`
names (`gathered`), so the reference's result is `permuted` of its input.
-/
module

public import proofs.«01_k».proof.Proof.Table
public import proofs.«01_k».proof.Proof.Gen.ReferenceIdeal.Run

@[expose] public section

noncomputable section

namespace Cert.Swap

open Cert.ReferenceIdeal Cert.ReferenceIdeal.Gen
open Idealize.ShloMosaic Idealize.ShloMosaic.TcCoe Idealize.SL.Sem

/-! ## The order of the blocks -/

/-- The places in the order of the table's words: the table itself. -/
theorem argsort_order (sw : Bool) : (Host.sort2 S2 0 comparator_i32_i32_d0 (order sw) (iotaInDim S2 32 0)).2 = order sw := by
  revert sw; decide

/-- No word is negative, so none is moved up by the number of blocks. -/
theorem wrapped_order (sw : Bool) :
    select (cmpi .slt (order sw) (broadcastInDim S2 ![] bcast_S_S2 (constantI S_ 32 0#32)))
      (addi (order sw) (broadcastInDim S2 ![] bcast_S_S2 (constantI S_ 32 2#32))) (order sw) = order sw := by
  revert sw; decide

/-- The column of block numbers the gather is given. -/
def column (sw : Bool) : IVec S2x1 32 := broadcastInDim S2x1 ![0] bcast_S2_S2x1_0 (order sw)

/-- Block `k` of the result is block `source sw k` of the input. -/
def source (sw : Bool) (k : Fin 2) : Fin 2 := if sw then 1 - k else k

/-- The column's word for result block `k`, kept within the blocks there are, is that block's number. -/
theorem column_word (sw : Bool) (i : S2x1.Idx) : min (column sw i).toInt.toNat 1 = (source sw (i 0)).val := by
  revert i sw; decide

/-! ## The gather -/

/-- The array with its two blocks in the mode's order. -/
def permuted {α : Type} (sw : Bool) (x : S2x4096x2048.Idx → α) : S2x4096x2048.Idx → α := fun j =>
  x fun a => match a with
    | ⟨0, _⟩ => source sw (j 0)
    | ⟨1, _⟩ => j 1
    | ⟨2, _⟩ => j 2

/-- The gather's dimension numbers, by a short name. -/
abbrev blocks : GatherDims S2x4096x2048 S2x1 S2x4096x2048 := gather_S2x4096x2048_S2x1_S2x4096x2048_12_0_n_n_0_1_140962048

theorem blocks_batch (j : S2x4096x2048.Idx) (a : Fin 3) : blocks.batchCoord j a = 0 :=
  blocks.batchCoord_eq_zero j a List.not_mem_nil

theorem blocks_start (sw : Bool) (j : S2x4096x2048.Idx) : blocks.start j (column sw) 0 = (source sw (j 0)).val := by
  unfold GatherDims.start
  exact (dif_pos (List.mem_singleton.mpr rfl)).trans (column_word sw _)

theorem blocks_start_zero (sw : Bool) (j : S2x4096x2048.Idx) {a : Fin 3} (ha : a ≠ 0) : blocks.start j (column sw) a = 0 := by
  unfold GatherDims.start
  exact dif_neg fun h => ha (List.mem_singleton.mp h)

theorem gathered {α : Type} (sw : Bool) (x : S2x4096x2048.Idx → α) : Host.gather blocks x (column sw) = permuted sw x := by
  funext j
  unfold Host.gather permuted
  congr 1
  funext a
  apply Fin.ext
  show blocks.start j (column sw) a + blocks.batchCoord j a + blocks.offCoord j a = _
  rw [blocks_batch]
  match a with
  | ⟨0, _⟩ => exact congrArg₂ (· + 0 + ·) (blocks_start sw j) (blocks.offCoord_eq_zero j 0 (by decide))
  | ⟨1, _⟩ => exact (congrArg (· + 0 + blocks.offCoord j 1) (blocks_start_zero sw j (a := 1) (by decide))).trans ((Nat.zero_add _).trans rfl)
  | ⟨2, _⟩ => exact (congrArg (· + 0 + blocks.offCoord j 2) (blocks_start_zero sw j (a := 2) (by decide))).trans ((Nat.zero_add _).trans rfl)

/-! ## The run -/

variable {F : FTy → Type} [FloatOps F]

/-- The reference's run, whatever its table: it ends, the arguments are kept, and no counter is left above zero (there
    are none). -/
theorem reference_quiet (m : (ℓ : Loc nD τ sig) → Buf (Elt F) ℓ) (g : Dev nD → PrngReg) :
    θ_run defs (onTc (τ := τ) (main (F := F))) ⟨m, fun _ => 0, g⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun _ h => ⟨fun c => (h c).2, funext fun s => by rcases s with ⟨_, s | s⟩ <;> exact s.elim0⟩)
    (Cert.ReferenceIdeal.Value.run m g)

/-- With the table of mode `sw`, the result is the input with its blocks in the mode's order. -/
theorem reference_result (sw : Bool) (m : (ℓ : Loc nD τ sig) → Buf (Elt F) ℓ) (g : Dev nD → PrngReg)
    (ht : m (((0 : Dev nD).tc : Thread nD τ).loc main_arg1) = order sw) :
    θ_run defs (onTc (τ := τ) (main (F := F))) ⟨m, fun _ => 0, g⟩ fun r =>
      r.2.mem (((0 : Dev nD).tc : Thread nD τ).loc main_v7) = permuted sw (m (((0 : Dev nD).tc : Thread nD τ).loc main_arg0))
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1) :=
  (θ_run defs _ _).mono (fun _ h => ⟨(h 0).1.trans (by
      rw [ht, argsort_order, wrapped_order]; exact gathered sw _), (h 0).2⟩)
    (Cert.ReferenceIdeal.Value.run m g)

end Cert.Swap

end
-- ==== Proof.Agree.lean ====
/-
# Blocks of the permuted array

Device `c` holds the block its place on the mesh's last axis names (`place`), and its peer holds the other one. So the array whose blocks the table reorders has, at device `c`, the block that `c`'s peer (swapping) or
`c` itself (staying) held of the input: `block_permuted`.
-/
module

public import proofs.«01_k».proof.Proof.Reference

@[expose] public section

noncomputable section

namespace Cert.Swap

open Idealize.ShloMosaic

/-- One block, and the array of both. -/
abbrev Block : Shape := ⟨3, ![1, 4096, 2048]⟩
abbrev Both : Shape := ⟨3, ![2, 4096, 2048]⟩

/-- Device `c`'s block of a whole array. -/
abbrev part {α : Type} (c : Dev 8) (v : Both.Idx → α) : Block.Idx → α :=
  Layout.blockN Block Both (Layout.meshBlock [2, 2, 2] ![[2], [], []] c) v

/-- The block number device `c`'s place on the mesh names. -/
theorem place (c : Dev 8) : Layout.meshLin [2, 2, 2] c.val [2] = c.val % 2 := by revert c; decide

/-- Entry `i` of device `c`'s block, as an entry of the whole array. -/
def entry (c : Dev 8) (i : Block.Idx) : Both.Idx := fun a => match a with
  | ⟨0, _⟩ => ⟨c.val % 2, Nat.mod_lt _ Nat.two_pos⟩
  | ⟨1, _⟩ => i 1
  | ⟨2, _⟩ => i 2

theorem part_apply {α : Type} (c : Dev 8) (v : Both.Idx → α) (i : Block.Idx) : part c v i = v (entry c i) := by
  show v _ = v _
  congr 1
  funext a
  apply Fin.ext
  have hi : (i 0).val = 0 := Nat.lt_one_iff.mp (i 0).isLt
  match a with
  | ⟨0, _⟩ =>
    show Layout.meshLin [2, 2, 2] c.val [2] * 1 + (i 0).val = c.val % 2
    rw [place, hi, Nat.mul_one, Nat.add_zero]
  | ⟨1, _⟩ => exact (congrArg (· + (i 1).val) (Nat.zero_mul _)).trans (Nat.zero_add _)
  | ⟨2, _⟩ => exact (congrArg (· + (i 2).val) (Nat.zero_mul _)).trans (Nat.zero_add _)

/-- Whose block of the input device `c` ends with. -/
def donor (sw : Bool) (c : Dev 8) : Dev 8 := if sw then peer c else c

theorem source_place (sw : Bool) (c : Dev 8) :
    source sw ⟨c.val % 2, Nat.mod_lt _ Nat.two_pos⟩ = ⟨(donor sw c).val % 2, Nat.mod_lt _ Nat.two_pos⟩ := by
  revert c sw; decide

theorem block_permuted {α : Type} (sw : Bool) (c : Dev 8) (v : Both.Idx → α) : part c (permuted sw v) = part (donor sw c) v := by
  funext i
  rw [part_apply, part_apply]
  show v _ = v _
  congr 1
  funext a
  match a with
  | ⟨0, _⟩ => exact source_place sw c
  | ⟨1, _⟩ => rfl
  | ⟨2, _⟩ => rfl

end Cert.Swap

end
-- ==== Proof.Claims.lean ====
/-
# The claims

Each claim's two versions, one per table, are one theorem in the mode: the run of the program (`run_main`) over the float
values the claim names, its memory's tables pinned down by the precondition.
-/
module

public import proofs.«01_k».proof.Defs
public import proofs.«01_k».proof.Proof.Gen.Kernel
public import proofs.«01_k».proof.Proof.Run
public import proofs.«01_k».proof.Proof.Agree

@[expose] public section

noncomputable section

namespace Cert.Swap

open Idealize.ShloMosaic Idealize.ShloMosaic.TcCoe Idealize.SL.Sem

/-! ## Arguments kept, counters at zero -/

section
open Cert.KernelIdeal Cert.KernelIdeal.Gen

variable {F : FTy → Type} [FloatOps F]

theorem kept_and_quiet (sw : Bool) (m : (ℓ : Loc nD τ sig) → Buf (Elt F) ℓ) (g : Dev nD → PrngReg)
    (h : ∀ c, tbl m c = order sw) :
    θ_run defs (onTc (τ := τ) (main (F := F))) ⟨m, fun _ => 0, g⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun _ h => ⟨fun c => (h.1 c).2, h.2⟩) (run_main sw m g (mode_of_tables sw m h))

end

section
open Cert.Kernel.Gen Cert.KernelIdeal.Gen

/-- The kernel and its idealization have one text, hence the same body under the one label there is. -/
theorem same_bodies : Cert.Kernel.defs₀ (F := Bits) = Cert.KernelIdeal.defs₀ (F := Bits) := by
  unfold Cert.Kernel.defs₀ Cert.KernelIdeal.defs₀
  congr 1
  funext l a
  obtain ⟨l, hl⟩ := l
  match l, hl with
  | 0, _ => rfl

theorem same_defs : Cert.Kernel.defs (F := Bits) = Cert.KernelIdeal.defs (F := Bits) :=
  congrArg (Pipeline.defs Cert.KernelIdeal.pcfgs) same_bodies

theorem kernel_kept_and_quiet (sw : Bool) (m : (ℓ : Loc Cert.Kernel.nD Cert.Kernel.τ Cert.Kernel.sig) → Buf (Elt Bits) ℓ)
    (g : Dev Cert.Kernel.nD → PrngReg) (h : ∀ c, tbl m c = order sw) :
    θ_run (Cert.Kernel.defs (F := Bits)) (onTc (τ := Cert.Kernel.τ) (Cert.Kernel.main (F := Bits))) ⟨m, fun _ => 0, g⟩ fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0 := by
  rw [same_defs]
  exact kept_and_quiet (F := Bits) sw m g h

end

open Cert.Kernel.Gen in
theorem frame_kernel : Cert.quiescent_Kernel := fun m g pre =>
  kernel_kept_and_quiet true m g fun c => reads_of_swapping _ _ (pre c)

open Cert.Kernel.Gen in
theorem frame_kernel_staying : Cert.quiescent_Kernel_pre_staying_Kernel := fun m g pre =>
  kernel_kept_and_quiet false m g fun c => reads_of_staying _ _ (pre c)

open Cert.KernelIdeal.Gen in
theorem frame_ideal : Cert.quiescent_KernelIdeal := fun m g pre =>
  kept_and_quiet (F := Ideal) true m g fun c => reads_of_swapping _ _ (pre c)

open Cert.KernelIdeal.Gen in
theorem frame_ideal_staying : Cert.quiescent_KernelIdeal_pre_staying_Kernel := fun m g pre =>
  kept_and_quiet (F := Ideal) false m g fun c => reads_of_staying _ _ (pre c)

/-! ## The values -/

section
open Cert.KernelIdeal Cert.KernelIdeal.Gen Cert.ReferenceIdeal.Gen

variable {F : FTy → Type} [FloatOps F]

/-- From blocks of one array and copies of one table, both programs run, and the kernel's devices end with the blocks of
    the reference's result. -/
theorem same_values (sw : Bool) (m : (ℓ : Loc nD τ sig) → Buf (Elt F) ℓ) (g : Dev nD → PrngReg)
    (m' : (ℓ : Loc Cert.ReferenceIdeal.nD Cert.ReferenceIdeal.τ Cert.ReferenceIdeal.sig) → Buf (Elt F) ℓ)
    (g' : Dev Cert.ReferenceIdeal.nD → PrngReg) (ht : ∀ c, tbl m c = order sw)
    (hin : ∀ c : Dev nD,
      m ((c.tc : Thread nD τ).loc main_arg0) = part c (m' (((0 : Dev Cert.ReferenceIdeal.nD).tc : Thread Cert.ReferenceIdeal.nD Cert.ReferenceIdeal.τ).loc Cert.ReferenceIdeal.main_arg0))
      ∧ m ((c.tc : Thread nD τ).loc main_arg1) = m' (((0 : Dev Cert.ReferenceIdeal.nD).tc : Thread Cert.ReferenceIdeal.nD Cert.ReferenceIdeal.τ).loc Cert.ReferenceIdeal.main_arg1)) :
    ∃ v : Both.Idx → Elt F .f32,
      θ_run defs (onTc (τ := τ) (main (F := F))) ⟨m, fun _ => 0, g⟩ (fun r => ∀ c : Dev nD,
        r.2.mem ((c.tc : Thread nD τ).loc main_v1) = part c v
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ θ_run (Cert.ReferenceIdeal.defs (F := F)) (onTc (τ := Cert.ReferenceIdeal.τ) (Cert.ReferenceIdeal.main (F := F))) ⟨m', fun _ => 0, g'⟩ (fun r =>
        r.2.mem (((0 : Dev Cert.ReferenceIdeal.nD).tc : Thread Cert.ReferenceIdeal.nD Cert.ReferenceIdeal.τ).loc Cert.ReferenceIdeal.main_v7) = v
        ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
        ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  have hres : ∀ c, res sw m c = part (donor sw c) (m' (((0 : Dev Cert.ReferenceIdeal.nD).tc : Thread Cert.ReferenceIdeal.nD Cert.ReferenceIdeal.τ).loc Cert.ReferenceIdeal.main_arg0)) := by
    intro c
    cases sw
    · exact (hin c).1
    · exact (hin (peer c)).1
  refine ⟨_, (θ_run defs _ _).mono (fun _ h c => ⟨?_, (h.1 c).2⟩) (run_main sw m g (mode_of_tables sw m ht)),
    reference_result sw m' g' ((hin 0).2.symm.trans (ht 0))⟩
  exact ((h.1 c).1.trans (hres c)).trans (block_permuted sw c _).symm

end

open Cert.KernelIdeal.Gen Cert.ReferenceIdeal.Gen in
theorem values_swapping : Cert.algebraic_KernelIdeal_ReferenceIdeal := fun m g m' g' pre hin =>
  same_values (F := Ideal) true m g m' g' (fun c => reads_of_swapping _ _ (pre c)) hin

open Cert.KernelIdeal.Gen Cert.ReferenceIdeal.Gen in
theorem values_staying : Cert.algebraic_KernelIdeal_ReferenceIdeal_pre_staying_Kernel := fun m g m' g' pre hin =>
  same_values (F := Ideal) false m g m' g' (fun c => reads_of_staying _ _ (pre c)) hin

end Cert.Swap

end
-- ==== Proof.lean ====
/-
# The certificate

Both tables' frames of the kernel and of its idealization, the reference's frames, and the two value claims, put together
with the side conditions the programs and the predicates state.
-/
module

public import proofs.«01_k».proof.Defs
public import proofs.«01_k».proof.Proof.Claims

@[expose] public section

noncomputable section

namespace Cert.Proof

open Cert.Swap

theorem claim : Cert.Claim :=
  ⟨Cert.Kernel.Gen.facts, Cert.KernelIdeal.Gen.facts, Cert.ReferenceIdeal.Gen.facts,
    swappingFacts, stayingFacts, swappingRefFacts, stayingRefFacts,
    frame_kernel, frame_kernel_staying, frame_ideal, frame_ideal_staying,
    fun m g _ => reference_quiet m g, fun m g _ => reference_quiet m g, fun m g _ => reference_quiet m g,
    trivial, values_swapping, values_staying⟩

end Cert.Proof

end
